-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_tokens_and_gate [hPre_finite_tokens_and_gate : Cert.Pre_finite_tokens_and_gate.Facts] (m : (ℓ : Loc Cert.KernelIdeal.nD Cert.KernelIdeal.τ Cert.KernelIdeal.sig) → Buf (Elt Ideal) ℓ) : Prop :=
  ∀ c : Dev Cert.KernelIdeal.nD,
    (Cert.Pre_finite_tokens_and_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_tokens_and_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_tokens_and_gate [hPre_finite_tokens_and_gate : Cert.Pre_finite_tokens_and_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_tokens_and_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_tokens_and_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_tokens_and_gate [hKernelIdeal : Cert.KernelIdeal.Facts] [hPre_finite_tokens_and_gate : Cert.Pre_finite_tokens_and_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_tokens_and_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_tokens_and_gate [hReferenceIdeal : Cert.ReferenceIdeal.Facts] [hPre_finite_tokens_and_gate : Cert.Pre_finite_tokens_and_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_tokens_and_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_tokens_and_gate [hKernelIdeal : Cert.KernelIdeal.Facts] [hReferenceIdeal : Cert.ReferenceIdeal.Facts] [hPre_finite_tokens_and_gate : Cert.Pre_finite_tokens_and_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_tokens_and_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v89) = v2 c
          ∧ r.2.mem ((c.tc : Thread Cert.ReferenceIdeal.nD Cert.ReferenceIdeal.τ).loc Cert.ReferenceIdeal.main_v23) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_tokens_and_gate : Cert.Pre_finite_tokens_and_gate.Facts),
    quiescent_Kernel (hKernel := hKernel)
    ∧ quiescent_KernelIdeal (hKernelIdeal := hKernelIdeal)
    ∧ quiescent_KernelIdeal_pre_finite_tokens_and_gate (hKernelIdeal := hKernelIdeal) (hPre_finite_tokens_and_gate := hPre_finite_tokens_and_gate)
    ∧ quiescent_ReferenceIdeal (hReferenceIdeal := hReferenceIdeal)
    ∧ quiescent_ReferenceIdeal_pre_finite_tokens_and_gate (hReferenceIdeal := hReferenceIdeal) (hPre_finite_tokens_and_gate := hPre_finite_tokens_and_gate)
    ∧ preserves_Kernel_KernelIdeal
    ∧ algebraic_KernelIdeal_ReferenceIdeal_pre_finite_tokens_and_gate (hKernelIdeal := hKernelIdeal) (hReferenceIdeal := hReferenceIdeal) (hPre_finite_tokens_and_gate := hPre_finite_tokens_and_gate)
-- ==== Pre_finite_tokens_and_gate.lean ====
abbrev S4x4096x2048 : Shape := ⟨3, ![4, 4096, 2048]⟩
abbrev S2048x16 : Shape := ⟨2, ![2048, 16]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S4x4096x2048 : S_.BroadcastsInDim S4x4096x2048 (![] : Fin 0 → Fin S4x4096x2048.rank)
  bcast_S_S2048x16 : S_.BroadcastsInDim S2048x16 (![] : Fin 0 → Fin S2048x16.rank)

variable [Facts]

def fn {F : FTy → Type} [FloatOps F] (main_arg0 : FVec F S4x4096x2048 .f32) (main_arg1 : FVec F S2048x16 .f32) (main_arg2 : FVec F S2048x1024 .f32) (main_arg3 : FVec F S1024 .f32) (main_arg4 : FVec F S1024x1 .f32) (main_arg5 : FVec F S1 .f32) : IVec S4x4096x2048 1 × IVec S2048x16 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_v3 : FVec F S2048x16 .f32 := Host.absf main_arg1
  let main_cst_0 : FVec F S_ .f32 := constant S_ .f32 0x7F800000#32
  let main_v4 : FVec F S2048x16 .f32 := broadcastInDim S2048x16 ![] bcast_S_S2048x16 main_cst_0
  let main_v5 : IVec S2048x16 1 := cmpf .olt main_v3 main_v4
  (main_v2, main_v5)
-- ==== Kernel.lean ====
abbrev S4x4096x2048 : Shape := ⟨3, ![4, 4096, 2048]⟩
abbrev S2048x16 : Shape := ⟨2, ![2048, 16]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S16384x2048 : Shape := ⟨2, ![16384, 2048]⟩
abbrev S_ : Shape := ⟨0, ![]⟩
abbrev S2048x128 : Shape := ⟨2, ![2048, 128]⟩
abbrev S2048x1152 : Shape := ⟨2, ![2048, 1152]⟩
abbrev S1x1024 : Shape := ⟨2, ![1, 1024]⟩
abbrev S1024x128 : Shape := ⟨2, ![1024, 128]⟩
abbrev S1x1 : Shape := ⟨2, ![1, 1]⟩
abbrev S16384x16 : Shape := ⟨2, ![16384, 16]⟩
abbrev S1024x2048 : Shape := ⟨2, ![1024, 2048]⟩
abbrev S1024x16 : Shape := ⟨2, ![1024, 16]⟩
abbrev S1024x1152 : Shape := ⟨2, ![1024, 1152]⟩
abbrev S1024x1024 : Shape := ⟨2, ![1024, 1024]⟩
abbrev S16384x3 : Shape := ⟨2, ![16384, 3]⟩
abbrev S4x4096x16 : Shape := ⟨3, ![4, 4096, 16]⟩
abbrev S16384x1 : Shape := ⟨2, ![16384, 1]⟩
abbrev S16384 : Shape := ⟨1, ![16384]⟩

abbrev nBuf : Space → Nat
  | .hbm => 27
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S2048x16, .f32⟩
  | .hbm, ⟨2, _⟩ => ⟨S2048x1024, .f32⟩
  | .hbm, ⟨3, _⟩ => ⟨S1024, .f32⟩
  | .hbm, ⟨4, _⟩ => ⟨S1024x1, .f32⟩
  | .hbm, ⟨5, _⟩ => ⟨S1, .f32⟩
  | .hbm, ⟨6, _⟩ => ⟨S16384x2048, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x1152, .f32⟩
  | .hbm, ⟨11, _⟩ => ⟨S2048x1152, .bf16⟩
  | .hbm, ⟨12, _⟩ => ⟨S1x1024, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S1x1, .f32⟩
  | .hbm, ⟨18, _⟩ => ⟨S16384x16, .f32⟩
  | .hbm, ⟨19, _⟩ => ⟨S16384x16, .i32⟩
  | .hbm, ⟨20, _⟩ => ⟨S16384x16, .f32⟩
  | .hbm, ⟨21, _⟩ => ⟨S16384x16, .i32⟩
  | .hbm, ⟨22, _⟩ => ⟨S16384x3, .f32⟩
  | .hbm, ⟨23, _⟩ => ⟨S16384x3, .i32⟩
  | .hbm, ⟨24, _⟩ => ⟨S4x4096x16, .f32⟩
  | .hbm, ⟨25, _⟩ => ⟨S16384x1, .i32⟩
  | .hbm, ⟨26, _⟩ => ⟨S16384, .i32⟩
  | .local _ .vmem, ⟨0, _⟩ => ⟨S1024x2048, .f32⟩
  | .local _ .vmem, ⟨1, _⟩ => ⟨S1024x2048, .f32⟩
  | .local _ .vmem, ⟨2, _⟩ => ⟨S2048x1152, .bf16⟩
  | .local _ .vmem, ⟨3, _⟩ => ⟨S1x1024, .f32⟩
  | .local _ .vmem, ⟨4, _⟩ => ⟨S1024x128, .bf16⟩
  | .local _ .vmem, ⟨5, _⟩ => ⟨S1x1, .f32⟩
  | .local _ .vmem, ⟨6, _⟩ => ⟨S1024x16, .f32⟩
  | .local _ .vmem, ⟨7, _⟩ => ⟨S1024x16, .f32⟩
  | .local _ .vmem, ⟨8, _⟩ => ⟨S1024x16, .i32⟩
  | .local _ .vmem, ⟨9, _⟩ => ⟨S1024x16, .i32⟩
  | .local _ .vmem, ⟨10, _⟩ => ⟨S1024x16, .f32⟩
  | .local _ .vmem, ⟨11, _⟩ => ⟨S1024x16, .f32⟩
  | .local _ .vmem, ⟨12, _⟩ => ⟨S1024x16, .i32⟩
  | .local _ .vmem, ⟨13, _⟩ => ⟨S1024x16, .i32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev main_v8_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x16 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x16 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S4x4096x2048 : Shape := ⟨3, ![4, 4096, 2048]⟩
abbrev S2048x16 : Shape := ⟨2, ![2048, 16]⟩
abbrev S2048x1024 : Shape := ⟨2, ![2048, 1024]⟩
abbrev S1024 : Shape := ⟨1, ![1024]⟩
abbrev S1024x1 : Shape := ⟨2, ![1024, 1]⟩
abbrev S1 : Shape := ⟨1, ![1]⟩
abbrev S16384x2048 : Shape := ⟨2, ![16384, 2048]⟩
abbrev S16384x1024 : Shape := ⟨2, ![16384, 1024]⟩
abbrev S1x1024 : Shape := ⟨2, ![1, 1024]⟩
abbrev S_ : Shape := ⟨0, ![]⟩
abbrev S16384x1 : Shape := ⟨2, ![16384, 1]⟩
abbrev S1x1 : Shape := ⟨2, ![1, 1]⟩
abbrev S16384 : Shape := ⟨1, ![16384]⟩
abbrev S16384x16 : Shape := ⟨2, ![16384, 16]⟩
abbrev S16384x3 : Shape := ⟨2, ![16384, 3]⟩
abbrev S3 : Shape := ⟨1, ![3]⟩
abbrev S1x3 : Shape := ⟨2, ![1, 3]⟩
abbrev S16384x3x1 : Shape := ⟨3, ![16384, 3, 1]⟩
abbrev S16384x3x2 : Shape := ⟨3, ![16384, 3, 2]⟩
abbrev S4x4096x16 : Shape := ⟨3, ![4, 4096, 16]⟩

abbrev nBuf : Space → Nat
  | .hbm => 128
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x16, .f32⟩
  | .hbm, ⟨2, _⟩ => ⟨S2048x1024, .f32⟩
  | .hbm, ⟨3, _⟩ => ⟨S1024, .f32⟩
  | .hbm, ⟨4, _⟩ => ⟨S1024x1, .f32⟩
  | .hbm, ⟨5, _⟩ => ⟨S1, .f32⟩
  | .hbm, ⟨6, _⟩ => ⟨S16384x2048, .f32⟩
  | .hbm, ⟨7, _⟩ => ⟨S16384x1024, .f32⟩
  | .hbm, ⟨8, _⟩ => ⟨S1x1024, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1, .f32⟩
  | .hbm, ⟨15, _⟩ => ⟨S1x1, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S16384x1, .i32⟩
  | .hbm, ⟨42, _⟩ => ⟨S16384, .i32⟩
  | .hbm, ⟨43, _⟩ => ⟨S16384x16, .f32⟩
  | .hbm, ⟨44, _⟩ => ⟨S_, .f32⟩
  | .hbm, ⟨45, _⟩ => ⟨S16384, .f32⟩
  | .hbm, ⟨46, _⟩ => ⟨S_, .f32⟩
  | .hbm, ⟨47, _⟩ => ⟨S16384, .f32⟩
  | .hbm, ⟨48, _⟩ => ⟨S16384, .f32⟩
  | .hbm, ⟨49, _⟩ => ⟨S16384x1, .f32⟩
  | .hbm, ⟨50, _⟩ => ⟨S16384x16, .f32⟩
  | .hbm, ⟨51, _⟩ => ⟨S16384x16, .f32⟩
  | .hbm, ⟨52, _⟩ => ⟨S16384x16, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S16384x16, .f32⟩
  | .hbm, ⟨57, _⟩ => ⟨S16384x16, .f32⟩
  | .hbm, ⟨58, _⟩ => ⟨S16384x3, .f32⟩
  | .hbm, ⟨59, _⟩ => ⟨S16384x3, .i32⟩
  | .hbm, ⟨60, _⟩ => ⟨S3, .i32⟩
  | .hbm, ⟨61, _⟩ => ⟨S1x3, .i32⟩
  | .hbm, ⟨62, _⟩ => ⟨S16384x1, .i32⟩
  | .hbm, ⟨63, _⟩ => ⟨S16384x3, .i32⟩
  | .hbm, ⟨64, _⟩ => ⟨S16384x3, .i32⟩
  | .hbm, ⟨65, _⟩ => ⟨S16384x3, .i1⟩
  | .hbm, ⟨66, _⟩ => ⟨S16384x3, .f32⟩
  | .hbm, ⟨67, _⟩ => ⟨S16384x3, .f32⟩
  | .hbm, ⟨68, _⟩ => ⟨S_, .f32⟩
  | .hbm, ⟨69, _⟩ => ⟨S16384, .f32⟩
  | .hbm, ⟨70, _⟩ => ⟨S16384x1, .f32⟩
  | .hbm, ⟨71, _⟩ => ⟨S_, .f32⟩
  | .hbm, ⟨72, _⟩ => ⟨S16384x1, .f32⟩
  | .hbm, ⟨73, _⟩ => ⟨S16384x1, .f32⟩
  | .hbm, ⟨74, _⟩ => ⟨S16384x3, .f32⟩
  | .hbm, ⟨75, _⟩ => ⟨S16384x3, .f32⟩
  | .hbm, ⟨76, _⟩ => ⟨S16384, .i32⟩
  | .hbm, ⟨77, _⟩ => ⟨S16384x1, .i32⟩
  | .hbm, ⟨78, _⟩ => ⟨S_, .f32⟩
  | .hbm, ⟨79, _⟩ => ⟨S16384x16, .f32⟩
  | .hbm, ⟨80, _⟩ => ⟨S_, .i32⟩
  | .hbm, ⟨81, _⟩ => ⟨S16384x1, .i32⟩
  | .hbm, ⟨82, _⟩ => ⟨S16384x1, .i1⟩
  | .hbm, ⟨83, _⟩ => ⟨S_, .i32⟩
  | .hbm, ⟨84, _⟩ => ⟨S16384x1, .i32⟩
  | .hbm, ⟨85, _⟩ => ⟨S16384x1, .i32⟩
  | .hbm, ⟨86, _⟩ => ⟨S16384x1, .i32⟩
  | .hbm, ⟨87, _⟩ => ⟨S_, .i32⟩
  | .hbm, ⟨88, _⟩ => ⟨S16384x3, .i32⟩
  | .hbm, ⟨89, _⟩ => ⟨S16384x3, .i1⟩
  | .hbm, ⟨90, _⟩ => ⟨S_, .i32⟩
  | .hbm, ⟨91, _⟩ => ⟨S16384x3, .i32⟩
  | .hbm, ⟨92, _⟩ => ⟨S16384x3, .i32⟩
  | .hbm, ⟨93, _⟩ => ⟨S16384x3, .i32⟩
  | .hbm, ⟨94, _⟩ => ⟨S16384x3, .i32⟩
  | .hbm, ⟨95, _⟩ => ⟨S16384x3x1, .i32⟩
  | .hbm, ⟨96, _⟩ => ⟨S16384x3x1, .i32⟩
  | .hbm, ⟨97, _⟩ => ⟨S16384x3x2, .i32⟩
  | .hbm, ⟨98, _⟩ => ⟨S_, .f32⟩
  | .hbm, ⟨99, _⟩ => ⟨S16384x3, .f32⟩
  | .hbm, ⟨100, _⟩ => ⟨S16384x16, .f32⟩
  | .hbm, ⟨101, _⟩ => ⟨S_, .f32⟩
  | .hbm, ⟨102, _⟩ => ⟨S16384x3, .f32⟩
  | .hbm, ⟨103, _⟩ => ⟨S16384x3, .i1⟩
  | .hbm, ⟨104, _⟩ => ⟨S16384x3, .f32⟩
  | .hbm, ⟨105, _⟩ => ⟨S_, .f32⟩
  | .hbm, ⟨106, _⟩ => ⟨S16384x16, .f32⟩
  | .hbm, ⟨107, _⟩ => ⟨S_, .i32⟩
  | .hbm, ⟨108, _⟩ => ⟨S16384x1, .i32⟩
  | .hbm, ⟨109, _⟩ => ⟨S16384x1, .i1⟩
  | .hbm, ⟨110, _⟩ => ⟨S_, .i32⟩
  | .hbm, ⟨111, _⟩ => ⟨S16384x1, .i32⟩
  | .hbm, ⟨112, _⟩ => ⟨S16384x1, .i32⟩
  | .hbm, ⟨113, _⟩ => ⟨S16384x1, .i32⟩
  | .hbm, ⟨114, _⟩ => ⟨S_, .i32⟩
  | .hbm, ⟨115, _⟩ => ⟨S16384x3, .i32⟩
  | .hbm, ⟨116, _⟩ => ⟨S16384x3, .i1⟩
  | .hbm, ⟨117, _⟩ => ⟨S_, .i32⟩
  | .hbm, ⟨118, _⟩ => ⟨S16384x3, .i32⟩
  | .hbm, ⟨119, _⟩ => ⟨S16384x3, .i32⟩
  | .hbm, ⟨120, _⟩ => ⟨S16384x3, .i32⟩
  | .hbm, ⟨121, _⟩ => ⟨S16384x3, .i32⟩
  | .hbm, ⟨122, _⟩ => ⟨S16384x3x1, .i32⟩
  | .hbm, ⟨123, _⟩ => ⟨S16384x3x1, .i32⟩
  | .hbm, ⟨124, _⟩ => ⟨S16384x3x2, .i32⟩
  | .hbm, ⟨125, _⟩ => ⟨S16384x16, .f32⟩
  | .hbm, ⟨126, _⟩ => ⟨S16384x16, .f32⟩
  | .hbm, ⟨127, _⟩ => ⟨S4x4096x16, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_cst_4 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_5 : Ref sig .tc := ⟨.hbm, 44, rfl⟩
abbrev main_v25 : Ref sig .tc := ⟨.hbm, 45, rfl⟩
abbrev main_cst_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_values : Ref sig .tc := ⟨.hbm, 58, rfl⟩
abbrev main_indices : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_8 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_c : Ref sig .tc := ⟨.hbm, 80, rfl⟩
abbrev main_v53 : Ref sig .tc := ⟨.hbm, 81, rfl⟩
abbrev main_v54 : Ref sig .tc := ⟨.hbm, 82, rfl⟩
abbrev main_c_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_v58 : Ref sig .tc := ⟨.hbm, 88, rfl⟩
abbrev main_v59 : Ref sig .tc := ⟨.hbm, 89, rfl⟩
abbrev main_c_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_cst_15 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_16 : Ref sig .tc := ⟨.hbm, 105, rfl⟩
abbrev main_v72 : Ref sig .tc := ⟨.hbm, 106, rfl⟩
abbrev main_c_17 : Ref sig .tc := ⟨.hbm, 107, rfl⟩
abbrev main_v73 : Ref sig .tc := ⟨.hbm, 108, rfl⟩
abbrev main_v74 : Ref sig .tc := ⟨.hbm, 109, rfl⟩
abbrev main_c_18 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_c_19 : Ref sig .tc := ⟨.hbm, 114, rfl⟩
abbrev main_v78 : Ref sig .tc := ⟨.hbm, 115, rfl⟩
abbrev main_v79 : Ref sig .tc := ⟨.hbm, 116, rfl⟩
abbrev main_c_20 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩

abbrev nD : Nat := 1
abbrev τ : Topo := Topo.v7x

variable {F : FTy → Type} [FloatOps F]
-- ==== Proof.Rows.lean ====
/- The mathematics of one row of the router, on sixteen extended reals: what three sweeps for the greatest entry find,
   that these are the first three positions of a stable descending sort, and the weights and the mask that follow. -/
module

public import Idealize.ShloMosaic.PureOps.Ideal
public import Idealize.ShloMosaic.PureOps.Reduce
public import Idealize.ShloMosaic.Lib.SortPrefix

@[expose] public section

set_option maxRecDepth 16384

noncomputable section

namespace Cert.Router

open Idealize.ShloMosaic

/-! ## The greatest entry of a row and the least lane that holds it -/

/-- The greatest entry of a row of sixteen. -/
def top (w : Fin 16 → EReal) : EReal := Finset.fold max ⊥ w Finset.univ

/-- Every entry is at most the greatest. -/
theorem le_top (w : Fin 16 → EReal) (l : Fin 16) : w l ≤ top w :=
  (Finset.le_fold_max (w l)).2 (Or.inr ⟨l, Finset.mem_univ l, le_rfl⟩)

/-- Some lane holds the greatest entry. -/
theorem exists_top (w : Fin 16 → EReal) : ∃ l, w l = top w := by
  rcases (Finset.le_fold_max (top w)).1 (le_refl (top w)) with h | ⟨l, -, h⟩
  · exact ⟨0, le_antisymm (le_top w 0) (h.trans bot_le)⟩
  · exact ⟨l, le_antisymm (le_top w l) h⟩

open Classical in
/-- The least lane that holds the row's greatest entry. -/
def best (w : Fin 16 → EReal) : Fin 16 :=
  (Finset.univ.filter fun l => w l = top w).min' ((exists_top w).imp fun l h => by simp [h])

/-- The lane found holds the greatest entry. -/
theorem apply_best (w : Fin 16 → EReal) : w (best w) = top w := by
  classical
  exact (Finset.mem_filter.1 (Finset.min'_mem (Finset.univ.filter fun l => w l = top w) _)).2

/-- No lane below it does. -/
theorem best_le (w : Fin 16 → EReal) (l : Fin 16) (h : w l = top w) : best w ≤ l := by
  classical
  exact Finset.min'_le _ _ (Finset.mem_filter.2 ⟨Finset.mem_univ l, h⟩)

/-- The smaller of two small words, read signed, is the word of the smaller number. -/
theorem minsi_ofNat (a b : Fin (2 ^ 31)) :
    IntOp.minsi (BitVec.ofNat 32 a.val) (BitVec.ofNat 32 b.val) = BitVec.ofNat 32 (min a b).val := by
  have ha : (BitVec.ofNat 32 a.val).toInt = (a.val : Int) := by
    rw [BitVec.toInt_eq_toNat_of_lt] <;> simp only [BitVec.toNat_ofNat] <;> omega
  have hb : (BitVec.ofNat 32 b.val).toInt = (b.val : Int) := by
    rw [BitVec.toInt_eq_toNat_of_lt] <;> simp only [BitVec.toNat_ofNat] <;> omega
  unfold IntOp.minsi
  simp only [BitVec.slt, BitVec.sle, ha, hb]
  rcases lt_trichotomy a.val b.val with h | h | h
  · rw [min_eq_left (show a ≤ b from h.le)]
    split <;> simp_all <;> omega
  · have : a = b := Fin.ext h
    subst this; simp
  · rw [min_eq_right (show b ≤ a from h.le)]
    split <;> simp_all <;> omega

/-- The least lane of a row equal to its greatest entry, as words: the lane's word where the entry is the greatest,
    sixteen elsewhere, and the signed minimum of these. -/
theorem fold_minsi_best (w : Fin 16 → EReal) [inst : ∀ l, Decidable (w l = top w)] :
    Finset.fold IntOp.minsi 2147483647#32 (fun l : Fin 16 => if w l = top w then BitVec.ofNat 32 l.val else 16#32) Finset.univ
      = BitVec.ofNat 32 (best w).val := by
  have hF : (fun l : Fin 16 => if w l = top w then BitVec.ofNat 32 l.val else 16#32)
      = fun l => BitVec.ofNat 32 ((if w l = top w then ⟨l.val, by omega⟩ else ⟨16, by norm_num⟩ : Fin (2 ^ 31))).val := by
    funext l; split <;> rfl
  have h0 : (2147483647#32 : BitVec 32) = BitVec.ofNat 32 ((⟨2147483647, by norm_num⟩ : Fin (2 ^ 31))).val := rfl
  rw [hF, h0, Finset.fold_hom (op := min) (op' := IntOp.minsi) (m := fun a : Fin (2 ^ 31) => BitVec.ofNat 32 a.val)
    fun a b => (minsi_ofNat a b).symm]
  refine congrArg (fun a : Fin (2 ^ 31) => BitVec.ofNat 32 a.val) (a₂ := ⟨(best w).val, by omega⟩) (le_antisymm ?_ ?_)
  · refine (Finset.fold_min_le _).2 (Or.inr ⟨best w, Finset.mem_univ _, ?_⟩)
    rw [if_pos (apply_best w)]
  · refine (Finset.le_fold_min _).2 ⟨?_, fun l _ => ?_⟩
    · show (best w).val ≤ 2147483647; omega
    · split
      · next h => exact best_le w l h
      · show (best w).val ≤ 16; omega

/-! ## Three sweeps: each takes the least lane of the greatest entry and puts the bottom value there -/

/-- The row after one sweep. -/
def rest (w : Fin 16 → EReal) : Fin 16 → EReal := fun l => if l = best w then ⊥ else w l

/-- The rows the three sweeps meet. -/
def work (p : Fin 16 → EReal) : Fin 3 → Fin 16 → EReal := ![p, rest p, rest (rest p)]

/-- The lane sweep `j` finds. -/
def sel (p : Fin 16 → EReal) (j : Fin 3) : Fin 16 := best (work p j)

/-- One position is before another in a descending sort: its entry is greater, or the entries are equal and it comes
    first. -/
def before (p : Fin 16 → EReal) (k k' : Fin 16) : Bool :=
  decide (p k' < p k) || (decide (p k = p k') && decide (k < k'))

/-- That is a strict total order on the positions. -/
theorem before_total (p : Fin 16 → EReal) : StrictTotalBefore (before p) := by
  classical
  have h := StrictTotalBefore.of_key_then_position (n := 16) (fun a b : EReal => decide (b < a)) p
    (fun a => by simp) (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)
  have he : before p = fun k k' => decide (p k' < p k) || (decide (p k = p k') && decide (k < k')) := rfl
  rw [he]
  convert h using 3

/-- In a row that agrees with `p` outside the lanes `A` and is the bottom value on them, with some lane left out of `A`
    and every entry of `p` above the bottom value: the lane found is outside `A` and no lane outside `A` is before it. -/
theorem best_masked (p w : Fin 16 → EReal) (hp : ∀ l, ⊥ < p l) (A : Finset (Fin 16)) (hA : ∀ l ∈ A, w l = ⊥)
    (hw : ∀ l, l ∉ A → w l = p l) (hne : ∃ l, l ∉ A) :
    best w ∉ A ∧ top w = p (best w) ∧ ∀ l, l ∉ A → before p l (best w) = false := by
  obtain ⟨l₀, hl₀⟩ := hne
  have hb : best w ∉ A := fun h => by
    have h1 := apply_best w
    rw [hA _ h] at h1
    have h2 := le_top w l₀
    rw [hw _ hl₀, ← h1] at h2
    exact absurd h2 (not_le.2 (hp l₀))
  have ht : top w = p (best w) := by rw [← apply_best w, hw _ hb]
  refine ⟨hb, ht, fun l hl => ?_⟩
  have hle := le_top w l
  rw [hw _ hl, ht] at hle
  simp only [before, Bool.or_eq_false_iff, Bool.and_eq_false_imp, decide_eq_false_iff_not, decide_eq_true_eq, not_lt]
  refine ⟨hle, fun h => ?_⟩
  exact best_le w l (by rw [hw _ hl, ht, h])

/-- The lanes the sweeps before sweep `j` found. -/
def found (p : Fin 16 → EReal) (j : Fin 3) : Finset (Fin 16) := (Finset.univ.filter (· < j)).image (sel p)

/-- What sweep `j` finds of a row whose entries are above the bottom value: a lane not found before, its entry the
    sweep's greatest, and no lane not found before is before it. -/
theorem sel_spec (p : Fin 16 → EReal) (hp : ∀ l, ⊥ < p l) (j : Fin 3) :
    sel p j ∉ found p j ∧ top (work p j) = p (sel p j) ∧ ∀ l, l ∉ found p j → before p l (sel p j) = false := by
  have hmem : ∀ (i : Fin 3) (l : Fin 16), l ∈ found p i ↔ ∃ i', i' < i ∧ sel p i' = l := fun i l => by
    simp [found]
  refine best_masked p (work p j) hp (found p j) ?_ ?_ ?_
  · intro l hl
    obtain ⟨i, hi, rfl⟩ := (hmem j l).1 hl
    fin_cases j <;> fin_cases i <;> simp_all [work, sel, rest]
  · intro l hl
    have hl' : ∀ i, i < j → sel p i ≠ l := fun i hi h => hl ((hmem j l).2 ⟨i, hi, h⟩)
    fin_cases j
    · rfl
    · have h0 := hl' 0 (by decide)
      show rest p l = p l
      exact if_neg fun h => h0 h.symm
    · have h0 := hl' 0 (by decide)
      have h1 := hl' 1 (by decide)
      show rest (rest p) l = p l
      exact (if_neg fun h => h1 h.symm).trans (if_neg fun h => h0 h.symm)
  · by_contra h
    have h : ∀ l, l ∈ found p j := fun l => by_contra fun hl => h ⟨l, hl⟩
    have h1 : (Finset.univ : Finset (Fin 16)) ⊆ found p j := fun l _ => h l
    have h2 := Finset.card_le_card h1
    have h3 : (found p j).card ≤ (Finset.univ.filter (· < j)).card := Finset.card_image_le
    have h4 : (Finset.univ.filter (· < j)).card ≤ (Finset.univ : Finset (Fin 3)).card := Finset.card_filter_le _ _
    simp only [Finset.card_univ, Fintype.card_fin] at h2 h4
    omega

/-- The lanes found are different. -/
theorem sel_injective (p : Fin 16 → EReal) (hp : ∀ l, ⊥ < p l) : Function.Injective (sel p) := by
  have h : ∀ i j : Fin 3, i < j → sel p i ≠ sel p j := fun i j hij he =>
    (sel_spec p hp j).1 (by rw [← he]; exact Finset.mem_image_of_mem _ (by simpa using hij))
  intro i j he
  rcases lt_trichotomy i j with hij | hij | hij
  · exact absurd he (h i j hij)
  · exact hij
  · exact absurd he.symm (h j i hij)

/-- Two orders that sort the positions alike name the same sources. -/
theorem sortedFrom_of_stableSort {n : Nat} (B B' : Fin n → Fin n → Bool)
    (h : stableSort B (List.finRange n) = stableSort B' (List.finRange n)) : sortedFrom B = sortedFrom B' := by
  funext k
  unfold sortedFrom sortPositions
  rw [List.get_of_eq h]
  rfl

/-- The sweeps find the first three positions of the stable descending sort of the row. -/
theorem sortedFrom_eq_sel (p : Fin 16 → EReal) (hp : ∀ l, ⊥ < p l) (j : Fin 3) :
    sortedFrom (fun k k' : Fin 16 => Ideal.cmp .ogt (p k) (p k') == 1#1) (j.castLE (by decide)) = sel p j := by
  have hs : ∀ l : List (Fin 16), l.Pairwise (· < ·) →
      stableSort (fun k k' : Fin 16 => Ideal.cmp .ogt (p k) (p k') == 1#1) l = stableSort (before p) l := by
    intro l hl
    induction l with
    | nil => rfl
    | cons a l ih =>
      obtain ⟨ha, hl⟩ := List.pairwise_cons.1 hl
      show insertBefore _ a (stableSort _ l) = insertBefore _ a (stableSort _ l)
      rw [ih hl]
      refine insertBefore_congr _ _ a _ fun b hb => ?_
      have hab : a < b := ha b ((perm_stableSort _ l).mem_iff.1 hb)
      have hnb : ¬ b < a := not_lt.2 hab.le
      simp only [before, Ideal.cmp, hnb, decide_false, Bool.and_false, Bool.or_false]
      by_cases h : p a < p b <;> simp [h]
  have hs' : sortedFrom (fun k k' : Fin 16 => Ideal.cmp .ogt (p k) (p k') == 1#1) = sortedFrom (before p) :=
    sortedFrom_of_stableSort _ _ (hs (List.finRange 16) (List.pairwise_lt_finRange 16))
  rw [hs']
  have hnot : ∀ i l, (∀ j, sel p j ≠ l) → l ∉ found p i := fun i l h hm => by
    obtain ⟨i', -, hi'⟩ := Finset.mem_image.1 hm
    exact h i' hi'
  refine (before_total p).sortedFrom_eq_of_prefix (k := 3) (by decide) (sel p) (sel_injective p hp) ?_ ?_ j
  · intro i j hij
    refine (sel_spec p hp i).2.2 _ fun hm => ?_
    obtain ⟨i', hi', he⟩ := Finset.mem_image.1 hm
    have := sel_injective p hp he
    subst this
    have : i' < i := by simpa using hi'
    exact absurd (hij.trans this) (lt_irrefl _)
  · intro i l h
    exact (sel_spec p hp i).2.2 l (hnot i l h)

end Cert.Router

end
-- ==== Proof.Weights.lean ====
/- The softmax of a row of finite scores is finite and positive; the weights of the lanes found; which of them are
   positive; and the mask of lanes. -/
module

public import proofs.«01_k».proof.Proof.Rows
public import Idealize.ShloMosaic.Lib.IdealHost

@[expose] public section

set_option maxRecDepth 16384

noncomputable section

namespace Cert.Router

open Idealize.ShloMosaic

/-! ## The constants -/

/-- The bit pattern of minus infinity is the bottom value. -/
theorem ofBits_neg_inf : Ideal.ofBits .f32 4286578688#32 = (⊥ : EReal) := by
  simp [Ideal.ofBits, Ideal.ieee]

/-- The small constant added to a row's sum. -/
def eps : EReal := Ideal.ofBits .f32 841731191#32

/-- It is a positive real. -/
theorem eps_real : ∃ e : ℝ, 0 < e ∧ eps = (e : EReal) := by
  refine ⟨11258999 * 2 ^ (-50 : ℤ), by positivity, ?_⟩
  simp [eps, Ideal.ofBits, Ideal.ieee, -EReal.coe_mul]

/-! ## The softmax of a row -/

/-- A sum of reals, read in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The probabilities of a row of scores: exponentials of the distances from the greatest score, over their sum. -/
def probs (g : Fin 16 → EReal) : Fin 16 → EReal :=
  fun l => Ideal.div (Ideal.exp (g l - max ⊥ (top g))) (∑ l' : Fin 16, Ideal.exp (g l' - max ⊥ (top g)))

/-- The probabilities of a row of finite scores are positive reals. -/
theorem probs_real (g : Fin 16 → EReal) (hg : ∀ l, ∃ a : ℝ, g l = (a : EReal)) :
    ∃ q : Fin 16 → ℝ, (∀ l, 0 < q l) ∧ ∀ l, probs g l = (q l : EReal) := by
  choose a ha using hg
  have ht : top g = (a (best g) : EReal) := by rw [← apply_best, ha]
  have hb : max (⊥ : EReal) (top g) = (a (best g) : EReal) := by rw [max_eq_right bot_le, ht]
  have he : ∀ l, Ideal.exp (g l - max ⊥ (top g)) = ((Real.exp (a l - a (best g)) : ℝ) : EReal) := fun l => by
    rw [hb, ha, ← EReal.coe_sub, Ideal.exp_coe]
  have hs : 0 < ∑ l' : Fin 16, Real.exp (a l' - a (best g)) :=
    Finset.sum_pos (fun l _ => Real.exp_pos _) Finset.univ_nonempty
  refine ⟨fun l => Real.exp (a l - a (best g)) * (1 / ∑ l' : Fin 16, Real.exp (a l' - a (best g))),
    fun l => mul_pos (Real.exp_pos _) (one_div_pos.2 hs), fun l => ?_⟩
  unfold probs
  simp only [he]
  rw [coe_sum, Ideal.div_coe hs.ne', ← EReal.coe_mul]

/-- A row of positive reals is above the bottom value. -/
theorem bot_lt_of_real (p : Fin 16 → EReal) (hp : ∃ q : Fin 16 → ℝ, (∀ l, 0 < q l) ∧ ∀ l, p l = (q l : EReal)) (l : Fin 16) :
    ⊥ < p l := by
  obtain ⟨q, -, h⟩ := hp
  rw [h]; exact EReal.bot_lt_coe _

/-- The greatest entry each sweep finds in a row of positive reals is positive. -/
theorem top_work_pos (p : Fin 16 → EReal) (hp : ∃ q : Fin 16 → ℝ, (∀ l, 0 < q l) ∧ ∀ l, p l = (q l : EReal)) (j : Fin 3) :
    0 < top (work p j) := by
  rw [(sel_spec p (bot_lt_of_real p hp) j).2.1]
  obtain ⟨q, hq, h⟩ := hp
  rw [h]; exact EReal.coe_pos.2 (hq _)

/-! ## The weights and the mask -/

/-- One where the number of experts the row takes exceeds `j`, zero elsewhere. -/
def flag (kw : BitVec 32) (j : Nat) : EReal := if (BitVec.ofNat 32 j).slt kw then 1 else 0

/-- The probability of the lane found by sweep `j` where the row takes it, zero elsewhere. -/
def mass (p : Fin 16 → EReal) (kw : BitVec 32) (j : Fin 3) : EReal := p (sel p j) * flag kw j.val

/-- The weight of the lane found by sweep `j`. -/
def weight (p : Fin 16 → EReal) (kw : BitVec 32) (j : Fin 3) : EReal :=
  Ideal.div (mass p kw j) ((∑ j' : Fin 3, mass p kw j') + eps)

/-- A weight is positive exactly where the row takes the lane: there it is a positive real over a positive real, and
    elsewhere it is zero over one. -/
theorem weight_pos_iff (p : Fin 16 → EReal) (hp : ∃ q : Fin 16 → ℝ, (∀ l, 0 < q l) ∧ ∀ l, p l = (q l : EReal))
    (kw : BitVec 32) (j : Fin 3) : 0 < weight p kw j ↔ (BitVec.ofNat 32 j.val).slt kw := by
  obtain ⟨q, hq, hpq⟩ := hp
  obtain ⟨e, he, hee⟩ := eps_real
  have hm : ∀ j : Fin 3, mass p kw j = ((if (BitVec.ofNat 32 j.val).slt kw then q (sel p j) else 0 : ℝ) : EReal) := fun j => by
    unfold mass flag
    rw [hpq]
    split <;> simp
  have hs : 0 ≤ ∑ j' : Fin 3, (if (BitVec.ofNat 32 j'.val).slt kw then q (sel p j') else 0 : ℝ) :=
    Finset.sum_nonneg fun j _ => by split; exacts [(hq _).le, le_rfl]
  have hd : 0 < (∑ j' : Fin 3, (if (BitVec.ofNat 32 j'.val).slt kw then q (sel p j') else 0 : ℝ)) + e := by linarith
  have hw : weight p kw j = (((if (BitVec.ofNat 32 j.val).slt kw then q (sel p j) else 0 : ℝ)
      * (1 / ((∑ j' : Fin 3, (if (BitVec.ofNat 32 j'.val).slt kw then q (sel p j') else 0 : ℝ)) + e)) : ℝ) : EReal) := by
    unfold weight
    simp only [hm]
    rw [coe_sum, hee, ← EReal.coe_add, Ideal.div_coe hd.ne', ← EReal.coe_mul]
  rw [hw, EReal.coe_pos]
  by_cases h : (BitVec.ofNat 32 j.val).slt kw
  · simp only [h, if_true, iff_true]
    exact mul_pos (hq _) (one_div_pos.2 hd)
  · simp only [h, if_false, zero_mul, lt_self_iff_false, Bool.false_eq_true]

/-- The mask at a lane, as a sweep leaves it: the sum over the sweeps of the row's flags where the lane is the one
    found. -/
def mask (p : Fin 16 → EReal) (kw : BitVec 32) (l : Fin 16) : EReal :=
  ∑ j : Fin 3, if l = sel p j then flag kw j.val else 0

/-- At the lane found by sweep `j` the mask is that sweep's flag. -/
theorem mask_sel (p : Fin 16 → EReal) (hp : ∀ l, ⊥ < p l) (kw : BitVec 32) (j : Fin 3) :
    mask p kw (sel p j) = flag kw j.val := by
  unfold mask
  rw [Finset.sum_eq_single j]
  · rw [if_pos rfl]
  · intro i _ hi
    exact if_neg fun h => hi (sel_injective p hp h).symm
  · intro h; exact absurd (Finset.mem_univ j) h

/-- At a lane no sweep found the mask is zero. -/
theorem mask_of_ne (p : Fin 16 → EReal) (kw : BitVec 32) (l : Fin 16) (h : ∀ j, sel p j ≠ l) : mask p kw l = 0 :=
  Finset.sum_eq_zero fun j _ => if_neg fun e => h j e.symm

end Cert.Router

end
-- ==== Proof.Tokens.lean ====
/- The router's quantities of one token, from the argument arrays: the gate's scores, the controller's score, and the
   four results' entries in terms of them. -/
module

public import proofs.«01_k».proof.Proof.Weights
public import Idealize.ShloMosaic.Lib.Pointwise

@[expose] public section

set_option maxRecDepth 16384

noncomputable section

namespace Cert.Router

open Idealize.ShloMosaic

/-- The number of experts a row takes, from the controller's score before the logistic function. -/
def count (z : EReal) : BitVec 32 :=
  FloatOps.fptosi (F := Ideal) (φ := .f32) 32 (min (Ideal.ofBits .f32 1077936128#32)
    (max 1 (Ideal.liftRound Ideal.roundHalfEven (Ideal.logistic z * Ideal.ofBits .f32 1077936128#32) + 1)))

/-- Token `n`'s entry in the three-dimensional array of tokens. -/
def token (X : FVec Ideal ⟨3, ![4, 4096, 2048]⟩ .f32) (n : Fin 16384) (d : Fin 2048) : EReal :=
  X (ix3 ⟨n.val / 4096, by omega⟩ ⟨n.val % 4096, Nat.mod_lt _ (by decide)⟩ d)

/-- Token `n`'s gate scores. -/
def gate (X : FVec Ideal ⟨3, ![4, 4096, 2048]⟩ .f32) (W : FVec Ideal ⟨2, ![2048, 16]⟩ .f32) (n : Fin 16384) : Fin 16 → EReal :=
  fun l => ∑ d : Fin 2048, token X n d * W (ix2 d l)

/-- Token `n`'s controller score. -/
def controller (X : FVec Ideal ⟨3, ![4, 4096, 2048]⟩ .f32) (w1 : FVec Ideal ⟨2, ![2048, 1024]⟩ .f32)
    (b1 : FVec Ideal ⟨1, ![1024]⟩ .f32) (w2 : FVec Ideal ⟨2, ![1024, 1]⟩ .f32) (b2 : FVec Ideal ⟨1, ![1]⟩ .f32)
    (n : Fin 16384) : EReal :=
  ∑ h : Fin 1024, max (∑ d : Fin 2048, token X n d * w1 (ix2 d h) + b1 (ix1 h)) 0 * w2 (ix2 h 0) + b2 (ix1 0)

/-- Where the tokens and the gate's matrix are finite, so is every gate score. -/
theorem gate_real (X : FVec Ideal ⟨3, ![4, 4096, 2048]⟩ .f32) (W : FVec Ideal ⟨2, ![2048, 16]⟩ .f32)
    (hX : ∀ i, ∃ a : ℝ, X i = (a : EReal)) (hW : ∀ i, ∃ a : ℝ, W i = (a : EReal)) (n : Fin 16384) (l : Fin 16) :
    ∃ a : ℝ, gate X W n l = (a : EReal) := by
  choose x hx using hX
  choose w hw using hW
  refine ⟨∑ d : Fin 2048, x (ix3 ⟨n.val / 4096, by omega⟩ ⟨n.val % 4096, Nat.mod_lt _ (by decide)⟩ d) * w (ix2 d l), ?_⟩
  unfold gate token
  simp only [hx, hw, ← EReal.coe_mul]
  rw [coe_sum]

end Cert.Router

end
-- ==== Proof.KernelBlock.lean ====
/- What the kernel's values on one block are, element by element: the gate's scores and softmax, the three sweeps, the
   weights, the lanes, the mask and the count, in terms of the row's mathematics. -/
module

public import proofs.«01_k».proof.Proof.Tokens
public import proofs.«01_k».proof.Proof.Gen.KernelIdeal.Skeleton
public import Idealize.ShloMosaic.Lib.Pointwise

@[expose] public section

set_option maxRecDepth 16384

noncomputable section

namespace Cert.Router

open Idealize.ShloMosaic Cert.KernelIdeal Cert.KernelIdeal.Gen

variable (x : Vec Ideal S1024x2048 .f32) (w : Vec Ideal S2048x1152 .bf16) (b1 : Vec Ideal S1x1024 .f32)
  (w2 : Vec Ideal S1024x128 .bf16) (b2 : Vec Ideal S1x1 .f32) (v : FVec Ideal S1024x16 .f32) (kw : IVec S1024x1 32)

/-- A row of a block's sixteen columns. -/
def row (r : Fin 1024) : Fin 16 → EReal := fun l => v (ix2 r l)

/-! ## The gate's scores and their softmax -/

/-- The scores of a row of the block: products with the columns from 1024 on. -/
def scores (r : Fin 1024) : Fin 16 → EReal :=
  fun l => ∑ d : Fin 2048, x (ix2 r d) * w (ix2 d ⟨1024 + l.val, by omega⟩)

/-- The kernel's distances from the greatest score. -/
theorem pay3_apply (r : Fin 1024) (l : Fin 16) :
    k0_pay3 x w (ix2 r l) = scores x w r l - max ⊥ (top (scores x w r)) := by
  pointwise [k0_pay3, k0_pay1]
  simp only [ofBits_neg_inf]
  rfl

/-- The kernel's softmax of a row is the row's probabilities. -/
theorem pay4_pay3 (r : Fin 1024) : row (k0_pay4 (k0_pay3 x w)) r = probs (scores x w r) := by
  funext l
  show k0_pay4 (k0_pay3 x w) (ix2 r l) = _
  pointwise [k0_pay4]
  simp only [pay3_apply]
  rfl

/-! ## The sweeps -/

/-- The lane numbers of a block. -/
def lanes : IVec S1024x16 32 := iota .tc S1024x16 32 [1] iota_S1024x16_d1_w32

/-- A lane's number. -/
theorem lanes_apply (r : Fin 1024) (l : Fin 16) : lanes (ix2 r l) = BitVec.ofNat 32 l.val := by
  pointwise [lanes]

/-- The first sweep's greatest entry. -/
theorem pay5_apply (r : Fin 1024) : k0_pay5 v (ix2 r 0) = top (row (k0_pay4 v) r) := by
  pointwise [k0_pay5]
  simp only [ofBits_neg_inf]
  rfl

/-- The lane that the first sweep finds. -/
theorem pay6_apply (r : Fin 1024) : k0_pay6 v (ix2 r 0) = BitVec.ofNat 32 (sel (row (k0_pay4 v) r) 0).val := by
  pointwise [k0_pay6, k0_pay5]
  simp only [ofBits_neg_inf]
  exact fold_minsi_best (row (k0_pay4 v) r)

/-- A choice by the equality of two lanes' words is a choice by the equality of the lanes. -/
theorem select_lane {α : Type} (a : Fin 16) (c : Nat) (hc : c < 16) (y z : α) :
    Scalar.select (IntOp.cmpi .eq (BitVec.ofNat 32 a.val) (BitVec.ofNat 32 c)) y z = if a.val = c then y else z := by
  have h : (BitVec.ofNat 32 a.val = BitVec.ofNat 32 c) ↔ a.val = c := by
    constructor
    · intro h
      have := congrArg BitVec.toNat h
      simp only [BitVec.toNat_ofNat] at this
      omega
    · intro h; rw [h]
  by_cases hac : a.val = c
  · simp [Scalar.select, IntOp.cmpi, hac]
  · have : ¬ BitVec.ofNat 32 a.val = BitVec.ofNat 32 c := fun e => hac (h.1 e)
    have h2 : (BitVec.ofNat 32 a.val == BitVec.ofNat 32 c) = false := by simpa using this
    simp only [Scalar.select, IntOp.cmpi, h2, hac, if_false]
    rfl

/-- The flag as the kernel chooses it: one where the sweep's greatest entry is positive and the count exceeds `j`. -/
theorem select_flag (m : EReal) (hm : 0 < m) (k : BitVec 32) (j : Nat) :
    Scalar.select (IntOp.andi (BitVec.ofBool (decide (0 < m))) (IntOp.cmpi .sgt k (BitVec.ofNat 32 j))) (1 : EReal) 0
      = flag k j := by
  unfold flag
  by_cases h : (BitVec.ofNat 32 j).slt k <;> simp [Scalar.select, IntOp.andi, IntOp.cmpi, hm, h]

/-- The flag as the kernel converts it: the word of the comparison, read as a number. -/
theorem convert_flag (k : BitVec 32) (j : Nat) :
    FloatOps.sitofp (F := Ideal) .f32 (BitVec.setWidth 32 (IntOp.cmpi .slt (BitVec.ofNat 32 j) k)) = flag k j := by
  unfold flag
  by_cases h : (BitVec.ofNat 32 j).slt k
  · simp only [IntOp.cmpi, h, if_true]
    show (((1 : Int) : ℝ) : EReal) = 1
    norm_num
  · simp only [IntOp.cmpi, h, if_false]
    show (((0 : Int) : ℝ) : EReal) = 0
    norm_num

/-- A row after the first sweep. -/
theorem pay12_apply (r : Fin 1024) : row (k0_pay12 (k0_pay4 v) (k0_pay10 v) k0_pay11) r = rest (row (k0_pay4 v) r) := by
  funext l
  show k0_pay12 (k0_pay4 v) (k0_pay10 v) k0_pay11 (ix2 r l) = _
  pointwise [k0_pay12, k0_pay10, k0_pay11]
  simp only [pay6_apply, ofBits_neg_inf]
  rw [select_lane l _ (sel (row (k0_pay4 v) r) 0).isLt]
  simp only [rest, sel, work, Fin.ext_iff]
  rfl

/-- The second sweep's greatest entry. -/
theorem pay13_apply (r : Fin 1024) :
    k0_pay13 (k0_pay4 v) (k0_pay10 v) k0_pay11 (ix2 r 0) = top (rest (row (k0_pay4 v) r)) := by
  rw [← pay12_apply]
  pointwise [k0_pay13]
  simp only [ofBits_neg_inf]
  rfl

/-- The lane that the second sweep finds. -/
theorem pay14_apply (r : Fin 1024) :
    k0_pay14 (k0_pay4 v) lanes (k0_pay10 v) k0_pay11 (ix2 r 0) = BitVec.ofNat 32 (sel (row (k0_pay4 v) r) 1).val := by
  show _ = BitVec.ofNat 32 (best (rest (row (k0_pay4 v) r))).val
  rw [← pay12_apply]
  pointwise [k0_pay14, k0_pay13, lanes_apply]
  simp only [ofBits_neg_inf]
  exact fold_minsi_best (row (k0_pay12 (k0_pay4 v) (k0_pay10 v) k0_pay11) r)

/-- A row after the second sweep. -/
theorem pay18_apply (r : Fin 1024) :
    row (k0_pay18 (k0_pay4 v) lanes (k0_pay10 v) k0_pay11) r = rest (rest (row (k0_pay4 v) r)) := by
  funext l
  show k0_pay18 (k0_pay4 v) lanes (k0_pay10 v) k0_pay11 (ix2 r l) = _
  pointwise [k0_pay18, lanes_apply]
  simp only [pay14_apply, ofBits_neg_inf]
  rw [select_lane l _ (sel (row (k0_pay4 v) r) 1).isLt]
  have h : k0_pay12 (k0_pay4 v) (k0_pay10 v) k0_pay11 (ix2 r l) = rest (row (k0_pay4 v) r) l := by
    rw [← pay12_apply]; rfl
  rw [h]
  generalize row (k0_pay4 v) r = p
  show (if l.val = (best (rest p)).val then ⊥ else rest p l) = if l = best (rest p) then ⊥ else rest p l
  simp only [Fin.ext_iff]

/-- The third sweep's greatest entry. -/
theorem pay19_apply (r : Fin 1024) :
    k0_pay19 (k0_pay4 v) lanes (k0_pay10 v) k0_pay11 (ix2 r 0) = top (rest (rest (row (k0_pay4 v) r))) := by
  rw [← pay18_apply]
  pointwise [k0_pay19]
  simp only [ofBits_neg_inf]
  rfl

/-- The lane that the third sweep finds. -/
theorem pay20_apply (r : Fin 1024) :
    k0_pay20 (k0_pay4 v) lanes (k0_pay10 v) k0_pay11 (ix2 r 0) = BitVec.ofNat 32 (sel (row (k0_pay4 v) r) 2).val := by
  show _ = BitVec.ofNat 32 (best (rest (rest (row (k0_pay4 v) r)))).val
  rw [← pay18_apply]
  pointwise [k0_pay20, k0_pay19, lanes_apply]
  simp only [ofBits_neg_inf]
  exact fold_minsi_best (row (k0_pay18 (k0_pay4 v) lanes (k0_pay10 v) k0_pay11) r)

/-! ## What the block stores -/

/-- The first three lanes of the stored indices are the lanes the sweeps found. -/
theorem indices_apply (r : Fin 1024) (j : Fin 3) :
    k0_pay21 lanes (k0_pay16 (k0_pay4 v) lanes (k0_pay8 v) (k0_pay10 v) k0_pay11)
      (k0_pay20 (k0_pay4 v) lanes (k0_pay10 v) k0_pay11) (ix2 r (j.castLE (by decide)))
      = BitVec.ofNat 32 (sel (row (k0_pay4 v) r) j).val := by
  pointwise [k0_pay21, k0_pay16, k0_pay8, lanes_apply]
  simp only [lanes_apply, pay6_apply, pay14_apply, pay20_apply]
  rw [select_lane _ 2 (by decide), select_lane _ 1 (by decide), select_lane _ 0 (by decide)]
  fin_cases j <;> simp [Fin.castLE]

/-- The stored mask, in a row whose sweeps' greatest entries are positive. -/
theorem mask_apply (r : Fin 1024) (l : Fin 16) (hp : ∀ j, 0 < top (work (row (k0_pay4 v) r) j)) :
    k0_pay22 kw lanes (k0_pay17 kw (k0_pay4 v) lanes (k0_pay9 kw v) (k0_pay10 v) k0_pay11)
      (k0_pay19 (k0_pay4 v) lanes (k0_pay10 v) k0_pay11)
      (k0_pay20 (k0_pay4 v) lanes (k0_pay10 v) k0_pay11) (ix2 r l)
      = mask (row (k0_pay4 v) r) (kw (ix2 r 0)) l := by
  pointwise [k0_pay22, k0_pay17, k0_pay9, lanes_apply]
  simp only [lanes_apply, pay6_apply, pay14_apply, pay20_apply, pay5_apply, pay13_apply, pay19_apply]
  rw [select_lane l _ (sel (row (k0_pay4 v) r) 0).isLt, select_lane l _ (sel (row (k0_pay4 v) r) 1).isLt,
    select_lane l _ (sel (row (k0_pay4 v) r) 2).isLt]
  have h0 : 0 < top (row (k0_pay4 v) r) := hp 0
  have h1 : 0 < top (rest (row (k0_pay4 v) r)) := hp 1
  have h2 : 0 < top (rest (rest (row (k0_pay4 v) r))) := hp 2
  rw [select_flag _ h0 _ 0, select_flag _ h1 _ 1, select_flag _ h2 _ 2]
  unfold mask
  rw [Fin.sum_univ_three]
  simp only [Fin.ext_iff]
  rfl

/-- The first three lanes of the stored weights, in a row whose sweeps' greatest entries are the entries of the lanes
    they found. -/
theorem weights_apply (r : Fin 1024) (j : Fin 3)
    (hp : ∀ j, top (work (row (k0_pay4 v) r) j) = row (k0_pay4 v) r (sel (row (k0_pay4 v) r) j)) :
    k0_pay23 kw lanes (k0_pay15 (k0_pay4 v) lanes (k0_pay7 v) (k0_pay10 v) k0_pay11)
      (k0_pay19 (k0_pay4 v) lanes (k0_pay10 v) k0_pay11) (ix2 r (j.castLE (by decide)))
      = weight (row (k0_pay4 v) r) (kw (ix2 r 0)) j := by
  pointwise [k0_pay23, k0_pay15, k0_pay7, lanes_apply]
  simp only [lanes_apply, pay5_apply, pay13_apply, pay19_apply, convert_flag]
  have h0 : top (row (k0_pay4 v) r) = row (k0_pay4 v) r (sel (row (k0_pay4 v) r) 0) := hp 0
  have h1 : top (rest (row (k0_pay4 v) r)) = row (k0_pay4 v) r (sel (row (k0_pay4 v) r) 1) := hp 1
  have h2 : top (rest (rest (row (k0_pay4 v) r))) = row (k0_pay4 v) r (sel (row (k0_pay4 v) r) 2) := hp 2
  rw [h0, h1, h2]
  generalize row (k0_pay4 v) r = p
  generalize kw (ix2 r 0) = k
  have e : ∀ l : Fin 16, Scalar.select (IntOp.cmpi .eq (BitVec.ofNat 32 l.val) 2#32) (p (sel p 2))
      (Scalar.select (IntOp.cmpi .eq (BitVec.ofNat 32 l.val) 1#32) (p (sel p 1))
        (Scalar.select (IntOp.cmpi .eq (BitVec.ofNat 32 l.val) 0#32) (p (sel p 0)) 0))
      = if l.val = 2 then p (sel p 2) else if l.val = 1 then p (sel p 1) else if l.val = 0 then p (sel p 0) else 0 := fun l => by
    rw [select_lane l 2 (by decide), select_lane l 1 (by decide), select_lane l 0 (by decide)]
  simp only [e]
  unfold weight mass eps
  congr 1
  · fin_cases j <;> rfl
  · congr 1
    rw [Fin.sum_univ_three]
    simp [Fin.sum_univ_succ, add_assoc]

/-! ## The count -/

/-- The controller's score of a row of the block, before the logistic function. -/
def control (r : Fin 1024) : EReal :=
  ∑ h : Fin 1024, max (∑ d : Fin 2048, x (ix2 r d) * w (ix2 d ⟨h.val, by omega⟩) + b1 (ix2 0 h)) 0 * w2 (ix2 h 0) + b2 (ix2 0 0)

/-- The controller's score of a row whose block's entries are the token's and the weights'. -/
theorem control_eq (r : Fin 1024) (X : FVec Ideal ⟨3, ![4, 4096, 2048]⟩ .f32) (v1 : FVec Ideal ⟨2, ![2048, 1024]⟩ .f32)
    (u1 : FVec Ideal ⟨1, ![1024]⟩ .f32) (v2 : FVec Ideal ⟨2, ![1024, 1]⟩ .f32) (u2 : FVec Ideal ⟨1, ![1]⟩ .f32) (n : Fin 16384)
    (hx : ∀ d, x (ix2 r d) = token X n d) (hw : ∀ (d : Fin 2048) (h : Fin 1024), w (ix2 d ⟨h.val, by omega⟩) = v1 (ix2 d h))
    (hb1 : ∀ h, b1 (ix2 0 h) = u1 (ix1 h)) (hw2 : ∀ h, w2 (ix2 h 0) = v2 (ix2 h 0)) (hb2 : b2 (ix2 0 0) = u2 (ix1 0)) :
    control x w b1 w2 b2 r = controller X v1 u1 v2 u2 n := by
  unfold control controller
  simp only [hx, hw, hb1, hw2, hb2]

/-- A row's number of experts. -/
theorem pay2_apply (r : Fin 1024) : k0_pay2 x w b1 w2 b2 (ix2 r 0) = count (control x w b1 w2 b2 r) := by
  pointwise [k0_pay2, k0_pay1]
  rfl

/-- The stored count is the row's, in every lane. -/
theorem pay24_apply (r : Fin 1024) (l : Fin 16) : k0_pay24 kw (ix2 r l) = kw (ix2 r 0) := by
  pointwise [k0_pay24]

end Cert.Router

end
-- ==== Proof.KernelStored.lean ====
/- What one grid point of the kernel stores in its four result blocks, from its five input blocks. -/
module

public import proofs.«01_k».proof.Proof.KernelBlock
public import proofs.«01_k».proof.Proof.Gen.KernelIdeal.Frame

@[expose] public section

set_option maxRecDepth 16384

noncomputable section

namespace Cert.Router

open Idealize.ShloMosaic Cert.KernelIdeal Cert.KernelIdeal.Gen

variable (x : Vec Ideal S1024x2048 .f32) (w : Vec Ideal S2048x1152 .bf16) (b1 : Vec Ideal S1x1024 .f32)
  (w2 : Vec Ideal S1024x128 .bf16) (b2 : Vec Ideal S1x1 .f32)

/-! The blocks are loaded whole. -/

/-- The loads' offsets are zero. -/
theorem zero2 : (![0, 0] : Fin 2 → Nat) = fun _ => 0 := funext fun a => by fin_cases a <;> rfl

/-- The load of the tokens' block is the block. -/
theorem ld_x : View.ld x r0_0 = x := View.ld_unit_zero zero2 _ x
/-- The load of the joined matrix is the matrix. -/
theorem ld_w : View.ld w r0_1 = w := View.ld_unit_zero zero2 _ w
/-- The load of the first bias is the bias. -/
theorem ld_b1 : View.ld b1 r0_2 = b1 := View.ld_unit_zero zero2 _ b1
/-- The load of the second matrix is the matrix. -/
theorem ld_w2 : View.ld w2 r0_3 = w2 := View.ld_unit_zero zero2 _ w2
/-- The load of the second bias is the bias. -/
theorem ld_b2 : View.ld b2 r0_4 = b2 := View.ld_unit_zero zero2 _ b2

/-- The counts, of the blocks themselves. -/
theorem pay25_eq : k0_pay25 x w b1 w2 b2 = k0_pay2 x w b1 w2 b2 := by
  unfold k0_pay25
  rw [ld_x, ld_w, ld_b1, ld_w2, ld_b2]

/-- The distances from the greatest score, of the blocks themselves. -/
theorem pay26_eq : k0_pay26 x w b1 w2 b2 = k0_pay3 x w := by
  unfold k0_pay26
  rw [ld_x, ld_w]

/-- The lanes' numbers. -/
theorem pay27_eq : k0_pay27 x w b1 w2 b2 = lanes := rfl
/-- The softmax, of the blocks themselves. -/
theorem pay28_eq : k0_pay28 x w b1 w2 b2 = k0_pay4 (k0_pay3 x w) := by unfold k0_pay28; rw [pay26_eq]
/-- Where the first sweep's lane is, of the blocks themselves. -/
theorem pay29_eq : k0_pay29 x w b1 w2 b2 = k0_pay10 (k0_pay3 x w) := by unfold k0_pay29; rw [pay26_eq]
/-- The value that a sweep writes over the lane it found. -/
theorem pay30_eq : k0_pay30 x w b1 w2 b2 = k0_pay11 := rfl
/-- The third sweep's greatest entries, of the blocks themselves. -/
theorem pay31_eq : k0_pay31 x w b1 w2 b2 = k0_pay19 (k0_pay4 (k0_pay3 x w)) lanes (k0_pay10 (k0_pay3 x w)) k0_pay11 := by
  unfold k0_pay31; rw [pay27_eq, pay28_eq, pay29_eq, pay30_eq]
/-- The lanes that the third sweep finds, of the blocks themselves. -/
theorem pay32_eq : k0_pay32 x w b1 w2 b2 = k0_pay20 (k0_pay4 (k0_pay3 x w)) lanes (k0_pay10 (k0_pay3 x w)) k0_pay11 := by
  unfold k0_pay32; rw [pay27_eq, pay28_eq, pay29_eq, pay30_eq]

/-- The stored count, in every lane of a row. -/
theorem stored_count (r : Fin 1024) (l : Fin 16) :
    k0_pay24 (k0_pay25 x w b1 w2 b2) (ix2 r l) = count (control x w b1 w2 b2 r) := by
  rw [pay25_eq, pay24_apply, pay2_apply]

/-- The stored indices, in the first three lanes of a row. -/
theorem stored_indices (r : Fin 1024) (j : Fin 3) :
    k0_pay21 (k0_pay27 x w b1 w2 b2) (k0_pay16 (k0_pay28 x w b1 w2 b2) (k0_pay27 x w b1 w2 b2) (k0_pay8 (k0_pay26 x w b1 w2 b2))
      (k0_pay29 x w b1 w2 b2) (k0_pay30 x w b1 w2 b2)) (k0_pay32 x w b1 w2 b2) (ix2 r (j.castLE (by decide)))
      = BitVec.ofNat 32 (sel (probs (scores x w r)) j).val := by
  rw [pay32_eq, pay30_eq, pay29_eq, pay28_eq, pay27_eq, pay26_eq]
  rw [← pay4_pay3 x w r]
  exact indices_apply (k0_pay3 x w) r j

/-- The stored mask, in a row of finite scores. -/
theorem stored_mask (r : Fin 1024) (l : Fin 16) (hg : ∀ l, ∃ a : ℝ, scores x w r l = (a : EReal)) :
    k0_pay22 (k0_pay25 x w b1 w2 b2) (k0_pay27 x w b1 w2 b2) (k0_pay17 (k0_pay25 x w b1 w2 b2) (k0_pay28 x w b1 w2 b2)
      (k0_pay27 x w b1 w2 b2) (k0_pay9 (k0_pay25 x w b1 w2 b2) (k0_pay26 x w b1 w2 b2)) (k0_pay29 x w b1 w2 b2)
      (k0_pay30 x w b1 w2 b2)) (k0_pay31 x w b1 w2 b2) (k0_pay32 x w b1 w2 b2) (ix2 r l)
      = mask (probs (scores x w r)) (count (control x w b1 w2 b2 r)) l := by
  rw [pay32_eq, pay31_eq, pay30_eq, pay29_eq, pay28_eq, pay27_eq, pay26_eq, pay25_eq]
  rw [← pay4_pay3 x w r, ← pay2_apply x w b1 w2 b2 r]
  refine mask_apply (k0_pay3 x w) (k0_pay2 x w b1 w2 b2) r l fun j => ?_
  rw [pay4_pay3]
  exact top_work_pos _ (probs_real _ hg) j

/-- The stored weights, in the first three lanes of a row of finite scores. -/
theorem stored_weights (r : Fin 1024) (j : Fin 3) (hg : ∀ l, ∃ a : ℝ, scores x w r l = (a : EReal)) :
    k0_pay23 (k0_pay25 x w b1 w2 b2) (k0_pay27 x w b1 w2 b2) (k0_pay15 (k0_pay28 x w b1 w2 b2) (k0_pay27 x w b1 w2 b2)
      (k0_pay7 (k0_pay26 x w b1 w2 b2)) (k0_pay29 x w b1 w2 b2) (k0_pay30 x w b1 w2 b2)) (k0_pay31 x w b1 w2 b2)
      (ix2 r (j.castLE (by decide)))
      = weight (probs (scores x w r)) (count (control x w b1 w2 b2 r)) j := by
  rw [pay31_eq, pay30_eq, pay29_eq, pay28_eq, pay27_eq, pay26_eq, pay25_eq]
  rw [← pay4_pay3 x w r, ← pay2_apply x w b1 w2 b2 r]
  refine weights_apply (k0_pay3 x w) (k0_pay2 x w b1 w2 b2) r j fun j => ?_
  rw [pay4_pay3]
  exact (sel_spec _ (bot_lt_of_real _ (probs_real _ hg)) j).2.1

end Cert.Router

end
-- ==== Proof.KernelArray.lean ====
/- What the kernel's four arrays hold after the run, token by token. -/
module

public import proofs.«01_k».proof.Proof.KernelStored
public import proofs.«01_k».proof.Proof.Gen.KernelIdeal.Frame
public import Idealize.ShloMosaic.Lib.Pipeline.ValueKit

@[expose] public section

set_option maxRecDepth 16384

noncomputable section

namespace Cert.Router

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-! ## The arrays the kernel's blocks are cut from -/

/-- The tokens, on two dimensions. -/
theorem entry_x (n : Fin 16384) (d : Fin 2048) :
    V m c main_v0 (ix2 n d) = token (m ((c : Thread nD τ).loc main_arg0)) n d := by
  simp only [V, V0, hostOps0, hostOps0_1, hostOps0_2, hostOps0_3, hostOps0_4, List.flatten_cons, List.flatten_nil, List.append_nil, List.cons_append, List.nil_append]
  after_results
  pointwise [token]

/-- The joined matrix from column 1024 on: the gate's matrix. -/
theorem entry_gate (d : Fin 2048) (l : Fin 16) :
    V m c main_v3 (ix2 d ⟨1024 + l.val, by omega⟩) = m ((c : Thread nD τ).loc main_arg1) (ix2 d l) := by
  simp only [V, V0, hostOps0, hostOps0_1, hostOps0_2, hostOps0_3, hostOps0_4, List.flatten_cons, List.flatten_nil, List.append_nil, List.cons_append, List.nil_append]
  after_results
  pointwise
  simp -implicitDefEqProofs only [StableHlo.TRef.toBuf, StableHlo.TRef.ofBuf, cast_eq]
  pointwise

/-- The joined matrix's first 1024 columns: the controller's first matrix. -/
theorem entry_w1 (d : Fin 2048) (h : Fin 1024) :
    V m c main_v3 (ix2 d ⟨h.val, by omega⟩) = m ((c : Thread nD τ).loc main_arg2) (ix2 d h) := by
  simp only [V, V0, hostOps0, hostOps0_1, hostOps0_2, hostOps0_3, hostOps0_4, List.flatten_cons, List.flatten_nil, List.append_nil, List.cons_append, List.nil_append]
  after_results
  pointwise

/-- The controller's first bias, as a row. -/
theorem entry_b1 (h : Fin 1024) :
    V m c main_v4 (ix2 0 h) = m ((c : Thread nD τ).loc main_arg3) (ix1 h) := by
  simp only [V, V0, hostOps0, hostOps0_1, hostOps0_2, hostOps0_3, hostOps0_4, List.flatten_cons, List.flatten_nil, List.append_nil, List.cons_append, List.nil_append]
  after_results
  pointwise

/-- The padded second matrix's first column: the controller's second matrix. -/
theorem entry_w2 (h : Fin 1024) :
    V m c main_v6 (ix2 h 0) = m ((c : Thread nD τ).loc main_arg4) (ix2 h 0) := by
  simp only [V, V0, hostOps0, hostOps0_1, hostOps0_2, hostOps0_3, hostOps0_4, List.flatten_cons, List.flatten_nil, List.append_nil, List.cons_append, List.nil_append]
  after_results
  pointwise
  simp -implicitDefEqProofs only [StableHlo.TRef.toBuf, StableHlo.TRef.ofBuf, cast_eq]
  pointwise

/-- The controller's second bias, as a single element. -/
theorem entry_b2  :
    V m c main_v7 (ix2 0 0) = m ((c : Thread nD τ).loc main_arg5) (ix1 0) := by
  simp only [V, V0, hostOps0, hostOps0_1, hostOps0_2, hostOps0_3, hostOps0_4, List.flatten_cons, List.flatten_nil, List.append_nil, List.cons_append, List.nil_append]
  after_results
  pointwise

/-- Which block each window holds at a grid point: tile `t` of the tokens and of the results, and the whole of the weights. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] :=
  (by decide +kernel : ∀ t : Fin grid0.N, _)

/-! ## The blocks of a grid point -/

/-- A row of a tile is one of the tokens. -/
theorem tile_lt (t : Fin cfg0.N) (r : Fin 1024) : t.val * 1024 + r.val < 16384 := by
  have := t.isLt
  have hN : cfg0.N = 16 := N_0
  omega

/-- Row `r` of grid point `t`'s tile is this token. -/
def tok (t : Fin cfg0.N) (r : Fin 1024) : Fin 16384 := ⟨t.val * 1024 + r.val, tile_lt t r⟩

/-- A row of the tokens' block is its token. -/
theorem blk_x (t : Fin cfg0.N) (r : Fin 1024) (d : Fin 2048) :
    iblk m c 0 t (ix2 r d) = token (m ((c : Thread nD τ).loc main_arg0)) (tok t r) d := by
  rw [← entry_x]
  unfold tok
  blk_ext [iblk, idx t]

/-- The joined matrix's block is the matrix. -/
theorem blk_w (t : Fin cfg0.N) (d : Fin 2048) (l : Fin 1152) :
    iblk m c 1 t (ix2 d l) = V m c main_v3 (ix2 d l) := by
  blk_ext [iblk, idx t]

/-- The first bias's block is the bias. -/
theorem blk_b1 (t : Fin cfg0.N) (h : Fin 1024) :
    iblk m c 2 t (ix2 0 h) = V m c main_v4 (ix2 0 h) := by
  blk_ext [iblk, idx t]

/-- The second matrix's block is the matrix. -/
theorem blk_w2 (t : Fin cfg0.N) (h : Fin 1024) (l : Fin 128) :
    iblk m c 3 t (ix2 h l) = V m c main_v6 (ix2 h l) := by
  blk_ext [iblk, idx t]

/-- The second bias's block is the bias. -/
theorem blk_b2 (t : Fin cfg0.N) :
    iblk m c 4 t (ix2 0 0) = V m c main_v7 (ix2 0 0) := by
  blk_ext [iblk, idx t]

/-- The scores of a row of a tile are its token's gate scores. -/
theorem scores_blk (t : Fin cfg0.N) (r : Fin 1024) :
    scores (iblk m c 0 t) (iblk m c 1 t) r
      = gate (m ((c : Thread nD τ).loc main_arg0)) (m ((c : Thread nD τ).loc main_arg1)) (tok t r) := by
  funext l
  refine Finset.sum_congr rfl fun d _ => ?_
  rw [blk_x, blk_w, entry_gate]

/-- The controller's score of a row of a tile is its token's. -/
theorem control_blk (t : Fin cfg0.N) (r : Fin 1024) :
    control (iblk m c 0 t) (iblk m c 1 t) (iblk m c 2 t) (iblk m c 3 t) (iblk m c 4 t) r
      = controller (m ((c : Thread nD τ).loc main_arg0)) (m ((c : Thread nD τ).loc main_arg2))
        (m ((c : Thread nD τ).loc main_arg3)) (m ((c : Thread nD τ).loc main_arg4)) (m ((c : Thread nD τ).loc main_arg5)) (tok t r) :=
  control_eq _ _ _ _ _ r _ _ _ _ _ _ (fun d => blk_x m c t r d) (fun d h => (blk_w m c t d _).trans (entry_w1 m c d h))
    (fun h => (blk_b1 m c t h).trans (entry_b1 m c h)) (fun h => (blk_w2 m c t h 0).trans (entry_w2 m c h))
    ((blk_b2 m c t).trans (entry_b2 m c))

/-! ## The four arrays after the run -/

/-- A token's probabilities, from the argument arrays. -/
def P (n : Fin 16384) : Fin 16 → EReal :=
  probs (gate (m ((c : Thread nD τ).loc main_arg0)) (m ((c : Thread nD τ).loc main_arg1)) n)

/-- A token's number of experts, from the argument arrays. -/
def K (n : Fin 16384) : BitVec 32 :=
  count (controller (m ((c : Thread nD τ).loc main_arg0)) (m ((c : Thread nD τ).loc main_arg2))
        (m ((c : Thread nD τ).loc main_arg3)) (m ((c : Thread nD τ).loc main_arg4)) (m ((c : Thread nD τ).loc main_arg5)) n)

/-- Where an output block's element sits: row `r` of grid point `t`'s tile is token `tok t r`'s. -/
theorem place5 (t : Fin cfg0.N) (r : Fin 1024) (l : Fin 16) :
    ((View.whole main_v8_0).slice (win0_5.rect t)).emb (ix2 r l) = ix2 (tok t r) l := by
  unfold tok
  blk_ext [idx t]
/-- The same of the indices' blocks. -/
theorem place6 (t : Fin cfg0.N) (r : Fin 1024) (l : Fin 16) :
    ((View.whole main_v8_1).slice (win0_6.rect t)).emb (ix2 r l) = ix2 (tok t r) l := by
  unfold tok
  blk_ext [idx t]
/-- The same of the masks' blocks. -/
theorem place7 (t : Fin cfg0.N) (r : Fin 1024) (l : Fin 16) :
    ((View.whole main_v8_2).slice (win0_7.rect t)).emb (ix2 r l) = ix2 (tok t r) l := by
  unfold tok
  blk_ext [idx t]
/-- The same of the counts' blocks. -/
theorem place8 (t : Fin cfg0.N) (r : Fin 1024) (l : Fin 16) :
    ((View.whole main_v8_3).slice (win0_8.rect t)).emb (ix2 r l) = ix2 (tok t r) l := by
  unfold tok
  blk_ext [idx t]

/-- Two places that are the same index have the same coordinates. -/
theorem ix2_inj {a b : Nat} {i i' : Fin a} {j j' : Fin b} (h : ix2 i j = ix2 i' j') : i = i' ∧ j = j' :=
  ⟨congrFun h 0, congrFun h 1⟩

/-- The counts' array. -/
theorem final_count (n : Fin 16384) (l : Fin 16) : (dats m 0 c).arrAt 8 (cfgs 0).N (ix2 n l) = K m c n := by
  have key : ∀ (n' : Fin 16384) (l' : Fin 16), (ix2 n l : S16384x16.Idx) = ix2 n' l' → (dats m 0 c).arrAt 8 (cfgs 0).N (ix2 n l) = K m c n' := by
    refine (dats m 0 c).arrAt_forall_of_covers 8
      (fun (i : S16384x16.Idx) v => ∀ (n' : Fin 16384) (l' : Fin 16), i = ix2 n' l' → v = K m c n') (by decide +kernel) (fun t hf y => ?_) (ix2 n l)
    blk_simp
    rw [after0_8]
    frame_out
    obtain ⟨r, l, rfl⟩ : ∃ (r : Fin 1024) (l : Fin 16), y = ix2 r l := ⟨y 0, y 1, eq_ix2 y⟩
    rw [place8]
    intro n' l' e
    obtain ⟨rfl, rfl⟩ := ix2_inj e
    exact (stored_count (iblk m c 0 t) (iblk m c 1 t) (iblk m c 2 t) (iblk m c 3 t) (iblk m c 4 t) r l).trans (congrArg count (control_blk m c t r))
  exact key n l rfl

/-- The indices' array, at its first three lanes. -/
theorem final_indices (n : Fin 16384) (j : Fin 3) :
    (dats m 0 c).arrAt 6 (cfgs 0).N (ix2 n (j.castLE (by decide))) = BitVec.ofNat 32 (sel (P m c n) j).val := by
  have key : ∀ (n' : Fin 16384) (j' : Fin 3), (ix2 n (j.castLE (by decide)) : S16384x16.Idx) = ix2 n' (j'.castLE (by decide))
      → (dats m 0 c).arrAt 6 (cfgs 0).N (ix2 n (j.castLE (by decide))) = BitVec.ofNat 32 (sel (P m c n') j').val := by
    refine (dats m 0 c).arrAt_forall_of_covers 6
      (fun (i : S16384x16.Idx) v => ∀ (n' : Fin 16384) (j' : Fin 3), i = ix2 n' (j'.castLE (by decide)) → v = BitVec.ofNat 32 (sel (P m c n') j').val)
      (by decide +kernel) (fun t hf y => ?_) (ix2 n (j.castLE (by decide)))
    blk_simp
    rw [after0_6]
    frame_out
    obtain ⟨r, l, rfl⟩ : ∃ (r : Fin 1024) (l : Fin 16), y = ix2 r l := ⟨y 0, y 1, eq_ix2 y⟩
    rw [place6]
    intro n' j' e
    obtain ⟨rfl, rfl⟩ := ix2_inj e
    rw [P, ← scores_blk m c t r]
    exact stored_indices (iblk m c 0 t) (iblk m c 1 t) (iblk m c 2 t) (iblk m c 3 t) (iblk m c 4 t) r j'
  exact key n j rfl

/-- The mask's array, at a token whose gate scores are finite. -/
theorem final_mask (n : Fin 16384) (l : Fin 16) (hg : ∀ n l, ∃ a : ℝ, gate (m ((c : Thread nD τ).loc main_arg0)) (m ((c : Thread nD τ).loc main_arg1)) n l = (a : EReal)) :
    (dats m 0 c).arrAt 7 (cfgs 0).N (ix2 n l) = mask (P m c n) (K m c n) l := by
  have key : ∀ (n' : Fin 16384) (l' : Fin 16), (ix2 n l : S16384x16.Idx) = ix2 n' l'
      → (dats m 0 c).arrAt 7 (cfgs 0).N (ix2 n l) = mask (P m c n') (K m c n') l' := by
    refine (dats m 0 c).arrAt_forall_of_covers 7
      (fun (i : S16384x16.Idx) v => ∀ (n' : Fin 16384) (l' : Fin 16), i = ix2 n' l' → v = mask (P m c n') (K m c n') l')
      (by decide +kernel) (fun t hf y => ?_) (ix2 n l)
    blk_simp
    rw [after0_7]
    frame_out
    obtain ⟨r, l, rfl⟩ : ∃ (r : Fin 1024) (l : Fin 16), y = ix2 r l := ⟨y 0, y 1, eq_ix2 y⟩
    rw [place7]
    intro n' l' e
    obtain ⟨rfl, rfl⟩ := ix2_inj e
    rw [P, K, ← scores_blk m c t r, ← control_blk m c t r]
    refine stored_mask (iblk m c 0 t) (iblk m c 1 t) (iblk m c 2 t) (iblk m c 3 t) (iblk m c 4 t) r l fun l' => ?_
    rw [scores_blk m c t r]
    exact hg _ l'
  exact key n l rfl

/-- The weights' array, at its first three lanes, at a token whose gate scores are finite. -/
theorem final_weights (n : Fin 16384) (j : Fin 3) (hg : ∀ n l, ∃ a : ℝ, gate (m ((c : Thread nD τ).loc main_arg0)) (m ((c : Thread nD τ).loc main_arg1)) n l = (a : EReal)) :
    (dats m 0 c).arrAt 5 (cfgs 0).N (ix2 n (j.castLE (by decide))) = weight (P m c n) (K m c n) j := by
  have key : ∀ (n' : Fin 16384) (j' : Fin 3), (ix2 n (j.castLE (by decide)) : S16384x16.Idx) = ix2 n' (j'.castLE (by decide))
      → (dats m 0 c).arrAt 5 (cfgs 0).N (ix2 n (j.castLE (by decide))) = weight (P m c n') (K m c n') j' := by
    refine (dats m 0 c).arrAt_forall_of_covers 5
      (fun (i : S16384x16.Idx) v => ∀ (n' : Fin 16384) (j' : Fin 3), i = ix2 n' (j'.castLE (by decide)) → v = weight (P m c n') (K m c n') j')
      (by decide +kernel) (fun t hf y => ?_) (ix2 n (j.castLE (by decide)))
    blk_simp
    rw [after0_5]
    frame_out
    obtain ⟨r, l, rfl⟩ : ∃ (r : Fin 1024) (l : Fin 16), y = ix2 r l := ⟨y 0, y 1, eq_ix2 y⟩
    rw [place5]
    intro n' j' e
    obtain ⟨rfl, rfl⟩ := ix2_inj e
    rw [P, K, ← scores_blk m c t r, ← control_blk m c t r]
    refine stored_weights (iblk m c 0 t) (iblk m c 1 t) (iblk m c 2 t) (iblk m c 3 t) (iblk m c 4 t) r j' fun l' => ?_
    rw [scores_blk m c t r]
    exact hg _ l'
  exact key n j rfl

end Cert.Router

end
-- ==== Proof.KernelRun.lean ====
/- What the kernel's program returns: the lines after the kernel cut its four arrays to the results' shapes. -/
module

public import proofs.«01_k».proof.Proof.KernelArray

@[expose] public section

set_option maxRecDepth 16384

noncomputable section

namespace Cert.Router

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (c : Dev nD)

/-- What the program's buffers hold at its end. -/
abbrev last (b : Ref sig .tc) : Buf (Elt Ideal) ((c.tc : Thread nD τ).loc b) :=
  Pipeline.afterTail₀ cfgs (dats m) 0 (V0 m) [hostOps1] c b

/-- The kernel's array 0 after the launch. -/
theorem array0 : Pipeline.withArrays (cfgs 0).spec c (V0 m c) (fun w => (dats m 0 c).arrAt w (cfgs 0).N) (Proc.devRef .tc main_v8_0)
    = (dats m 0 c).arrAt 5 (cfgs 0).N :=
  Pipeline.withArrays_arr spec0 winFacts0.arr_inj c (V0 m c) _ 5

/-- The kernel's array 1 after the launch. -/
theorem array1 : Pipeline.withArrays (cfgs 0).spec c (V0 m c) (fun w => (dats m 0 c).arrAt w (cfgs 0).N) (Proc.devRef .tc main_v8_1)
    = (dats m 0 c).arrAt 6 (cfgs 0).N :=
  Pipeline.withArrays_arr spec0 winFacts0.arr_inj c (V0 m c) _ 6

/-- The kernel's array 2 after the launch. -/
theorem array2 : Pipeline.withArrays (cfgs 0).spec c (V0 m c) (fun w => (dats m 0 c).arrAt w (cfgs 0).N) (Proc.devRef .tc main_v8_2)
    = (dats m 0 c).arrAt 7 (cfgs 0).N :=
  Pipeline.withArrays_arr spec0 winFacts0.arr_inj c (V0 m c) _ 7

/-- The kernel's array 3 after the launch. -/
theorem array3 : Pipeline.withArrays (cfgs 0).spec c (V0 m c) (fun w => (dats m 0 c).arrAt w (cfgs 0).N) (Proc.devRef .tc main_v8_3)
    = (dats m 0 c).arrAt 8 (cfgs 0).N :=
  Pipeline.withArrays_arr spec0 winFacts0.arr_inj c (V0 m c) _ 8

/-- The weights are the first three lanes of the weights' array. -/
theorem last_weights (n : Fin 16384) (j : Fin 3) :
    last m c main_v9 (ix2 n j) = (dats m 0 c).arrAt 5 (cfgs 0).N (ix2 n (j.castLE (by decide))) := by
  unfold last Pipeline.afterTail₀
  simp only [hostOps1, List.flatten_cons, List.flatten_nil, List.append_nil]
  after_results
  rw [array0]
  pointwise
  rfl

/-- The indices are the first three lanes of the indices' array. -/
theorem last_indices (n : Fin 16384) (j : Fin 3) :
    last m c main_v10 (ix2 n j) = (dats m 0 c).arrAt 6 (cfgs 0).N (ix2 n (j.castLE (by decide))) := by
  unfold last Pipeline.afterTail₀
  simp only [hostOps1, List.flatten_cons, List.flatten_nil, List.append_nil]
  after_results
  rw [array1]
  pointwise
  rfl

/-- The mask is the masks' array, its tokens on two dimensions. -/
theorem last_mask (a : Fin 4) (b : Fin 4096) (l : Fin 16) :
    last m c main_v11 (ix3 a b l) = (dats m 0 c).arrAt 7 (cfgs 0).N (ix2 ⟨a.val * 4096 + b.val, by omega⟩ l) := by
  unfold last Pipeline.afterTail₀
  simp only [hostOps1, List.flatten_cons, List.flatten_nil, List.append_nil]
  after_results
  rw [array2]
  pointwise

/-- The counts are the first lane of the counts' array. -/
theorem last_count (n : Fin 16384) :
    last m c main_v13 (ix1 n) = (dats m 0 c).arrAt 8 (cfgs 0).N (ix2 n 0) := by
  unfold last Pipeline.afterTail₀
  simp only [hostOps1, List.flatten_cons, List.flatten_nil, List.append_nil]
  after_results
  rw [array3]
  pointwise

/-- The run: the four results hold what the last lines leave, and the arguments are unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v9) = last m c main_v9
      ∧ r.2.mem ((c.tc : Thread nD τ).loc main_v10) = last m c main_v10
      ∧ r.2.mem ((c.tc : Thread nD τ).loc main_v11) = last m c main_v11
      ∧ r.2.mem ((c.tc : Thread nD τ).loc main_v13) = last m c main_v13
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v9 (Pipeline.mem_restRefs_of main_v9 (by decide) (by decide)),
      (h c).2 main_v10 (Pipeline.mem_restRefs_of main_v10 (by decide) (by decide)),
      (h c).2 main_v11 (Pipeline.mem_restRefs_of main_v11 (by decide) (by decide)),
      (h c).2 main_v13 (Pipeline.mem_restRefs_of main_v13 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Router

end
-- ==== Proof.ReferenceTerms.lean ====
/- The reference's results as functions of its arguments, its program's operations composed. -/
module

public import proofs.«01_k».proof.Proof.Gen.ReferenceIdeal.Run
public import Idealize.ShloMosaic.Lib.Pointwise

@[expose] public section

set_option maxRecDepth 16384

noncomputable section

namespace Cert.Router

open Idealize.ShloMosaic Idealize.ShloMosaic.TcCoe Idealize.SL.Sem Cert.ReferenceIdeal Cert.ReferenceIdeal.Gen

/-- The gate scores of all tokens. -/
def rGate (X : FVec Ideal S4x4096x2048 .f32) (W : FVec Ideal S2048x16 .f32) : FVec Ideal S16384x16 .f32 :=
  Host.dotGeneral dot_S16384x2048_S2048x16_S16384x16_1_0_0_1_n_n none
    (shapeCast S16384x2048 X shapeCasts_S4x4096x2048_S16384x2048) W

/-- The exponentials of the scores below each row's greatest. -/
def rExps (s : FVec Ideal S16384x16 .f32) : FVec Ideal S16384x16 .f32 :=
  Host.exp (subf s (broadcastInDim S16384x16 ![0, 1] bcast_S16384x1_S16384x16_0_1 (broadcastInDim S16384x1 ![0] bcast_S16384_S16384x1_0
    (maximumf (broadcastInDim S16384 ![] bcast_S_S16384 (constant S_ .f32 0xFF800000#32))
      (Host.reduce FloatOps.maximumf s (constant S_ .f32 0xFF800000#32) reducesTo_S16384x16_S16384_d1 h_S_)))))

/-- The scores' probabilities. -/
def rProbs (s : FVec Ideal S16384x16 .f32) : FVec Ideal S16384x16 .f32 :=
  Host.divf (rExps s) (broadcastInDim S16384x16 ![0, 1] bcast_S16384x1_S16384x16_0_1 (broadcastInDim S16384x1 ![0] bcast_S16384_S16384x1_0
    (Host.reduceAdd (rExps s) (constant S_ .f32 0x00000000#32) reducesTo_S16384x16_S16384_d1 h_S_)))

/-- The three greatest probabilities of each token and where they stand. -/
def rTop (p : FVec Ideal S16384x16 .f32) : FVec Ideal S16384x3 .f32 × IVec S16384x3 32 :=
  Host.topK S16384x3 1 (FloatOps.cmpfTotal (F := Ideal) (φ := .f32) .gt) p sliceFits_S16384x16_S16384x3

/-- The controller's scores of all tokens. -/
def rControl (X : FVec Ideal S4x4096x2048 .f32) (w1 : FVec Ideal S2048x1024 .f32) (b1 : FVec Ideal S1024 .f32)
    (w2 : FVec Ideal S1024x1 .f32) (b2 : FVec Ideal S1 .f32) : FVec Ideal S16384x1 .f32 :=
  addf (Host.dotGeneral dot_S16384x1024_S1024x1_S16384x1_1_0_0_1_n_n none
      (maximumf (addf (Host.dotGeneral dot_S16384x2048_S2048x1024_S16384x1024_1_0_0_1_n_n none
          (shapeCast S16384x2048 X shapeCasts_S4x4096x2048_S16384x2048) w1)
        (broadcastInDim S16384x1024 ![0, 1] bcast_S1x1024_S16384x1024_0_1 (broadcastInDim S1x1024 ![1] bcast_S1024_S1x1024_1 b1)))
        (broadcastInDim S16384x1024 ![] bcast_S_S16384x1024 (constant S_ .f32 0x00000000#32))) w2)
    (broadcastInDim S16384x1 ![0, 1] bcast_S1x1_S16384x1_0_1 (broadcastInDim S1x1 ![1] bcast_S1_S1x1_1 b2))

/-- The numbers of experts, from the controller's scores. -/
def rCount (z : FVec Ideal S16384x1 .f32) : IVec S16384 32 :=
  shapeCast S16384 (fptosi 32 (minimumf (broadcastInDim S16384x1 ![] bcast_S_S16384x1 (id (constant S_ .f32 0x40400000#32)))
    (maximumf (broadcastInDim S16384x1 ![] bcast_S_S16384x1 (id (constant S_ .f32 0x3F800000#32)))
      (addf (Host.roundeven (mulf (Host.divf (broadcastInDim S16384x1 ![] bcast_S_S16384x1 (constant S_ .f32 0x3F800000#32))
          (addf (broadcastInDim S16384x1 ![] bcast_S_S16384x1 (constant S_ .f32 0x3F800000#32)) (Host.exp (Host.negf z))))
        (broadcastInDim S16384x1 ![] bcast_S_S16384x1 (constant S_ .f32 0x40400000#32))))
        (broadcastInDim S16384x1 ![] bcast_S_S16384x1 (constant S_ .f32 0x3F800000#32)))))) shapeCasts_S16384x1_S16384

/-- The probabilities taken, those past a token's number of experts set to zero. -/
def rTaken (v : FVec Ideal S16384x3 .f32) (k : IVec S16384 32) : FVec Ideal S16384x3 .f32 :=
  mulf v (uitofp .f32 (cmpi .slt (broadcastInDim S16384x3 ![0, 1] bcast_S1x3_S16384x3_0_1 (broadcastInDim S1x3 ![1] bcast_S3_S1x3_1 (iotaInDim S3 32 0)))
    (broadcastInDim S16384x3 ![0, 1] bcast_S16384x1_S16384x3_0_1 (broadcastInDim S16384x1 ![0] bcast_S16384_S16384x1_0 k))))

/-- The weights: the probabilities taken over their sum. -/
def rWeights (t : FVec Ideal S16384x3 .f32) : FVec Ideal S16384x3 .f32 :=
  Host.divf t (broadcastInDim S16384x3 ![0, 1] bcast_S16384x1_S16384x3_0_1
    (addf (broadcastInDim S16384x1 ![0] bcast_S16384_S16384x1_0 (Host.reduceAdd t (constant S_ .f32 0x00000000#32) reducesTo_S16384x3_S16384_d1 h_S_))
      (broadcastInDim S16384x1 ![] bcast_S_S16384x1 (constant S_ .f32 0x322BCC77#32))))

/-- Where the scatters write: the token, and its expert. -/
def rPlaces (e : IVec S16384x3 32) : IVec S16384x3x2 32 :=
  concatenate S16384x3x2 2 [⟨S16384x3x1, (broadcastInDim S16384x3x1 ![0, 1] bcast_S16384x3_S16384x3x1_0_1
      (broadcastInDim S16384x3 ![0, 1] bcast_S16384x1_S16384x3_0_1 (select
        (cmpi .slt (broadcastInDim S16384x1 ![0] bcast_S16384_S16384x1_0 (iotaInDim S16384 32 0)) (broadcastInDim S16384x1 ![] bcast_S_S16384x1 (constantI S_ 32 0#32)))
        (addi (broadcastInDim S16384x1 ![0] bcast_S16384_S16384x1_0 (iotaInDim S16384 32 0)) (broadcastInDim S16384x1 ![] bcast_S_S16384x1 (constantI S_ 32 16384#32)))
        (broadcastInDim S16384x1 ![0] bcast_S16384_S16384x1_0 (iotaInDim S16384 32 0)))))⟩,
    ⟨S16384x3x1, (broadcastInDim S16384x3x1 ![0, 1] bcast_S16384x3_S16384x3x1_0_1 (select
      (cmpi .slt e (broadcastInDim S16384x3 ![] bcast_S_S16384x3 (constantI S_ 32 0#32)))
      (addi e (broadcastInDim S16384x3 ![] bcast_S_S16384x3 (constantI S_ 32 16#32))) e))⟩] concatenates_S16384x3x1_S16384x3x1_S16384x3x2_d2

/-- Values written over zeros at the tokens' experts. -/
def rScatter (e : IVec S16384x3 32) (u : FVec Ideal S16384x3 .f32) : FVec Ideal S16384x16 .f32 :=
  Host.scatter scatter_S16384x16_S16384x3x2_S16384x3_n_01_01_2 (fun _ b => b)
    (broadcastInDim S16384x16 ![] bcast_S_S16384x16 (constant S_ .f32 0x00000000#32)) (rPlaces e) u

/-- The mask: a one at each of a token's experts, times a one at those of positive weight. -/
def rMask (e : IVec S16384x3 32) (v : FVec Ideal S16384x3 .f32) : FVec Ideal S4x4096x16 .f32 :=
  shapeCast S4x4096x16 (mulf (rScatter e (broadcastInDim S16384x3 ![] bcast_S_S16384x3 (constant S_ .f32 0x3F800000#32)))
    (rScatter e (uitofp .f32 (cmpf .ogt v (broadcastInDim S16384x3 ![] bcast_S_S16384x3 (constant S_ .f32 0x00000000#32))))))
    shapeCasts_S16384x16_S4x4096x16

variable (m : (ℓ : Loc nD τ sig) → Buf (Elt Ideal) ℓ) (c : Dev nD)

/-- The probabilities of the arguments. -/
abbrev argProbs : FVec Ideal S16384x16 .f32 := rProbs (rGate (m ((c.tc : Thread nD τ).loc main_arg0)) (m ((c.tc : Thread nD τ).loc main_arg1)))

/-- The numbers of experts of the arguments. -/
abbrev argCount : IVec S16384 32 :=
  rCount (rControl (m ((c.tc : Thread nD τ).loc main_arg0)) (m ((c.tc : Thread nD τ).loc main_arg2)) (m ((c.tc : Thread nD τ).loc main_arg3))
    (m ((c.tc : Thread nD τ).loc main_arg4)) (m ((c.tc : Thread nD τ).loc main_arg5)))

/-- The weights of the arguments. -/
abbrev argWeights : FVec Ideal S16384x3 .f32 := rWeights (rTaken (rTop (argProbs m c)).1 (argCount m c))

/-- The reference's run, its results composed of the functions above, the arguments unchanged. -/
theorem reference_run (ρ : Dev nD → PrngReg) :
    θ_run (defs (F := Ideal)) (onTc (τ := τ) (main (F := Ideal))) ⟨m, fun _ => 0, ρ⟩ fun r => ∀ c : Dev nD,
      r.2.mem ((c.tc : Thread nD τ).loc main_v49) = argWeights m c
      ∧ r.2.mem ((c.tc : Thread nD τ).loc main_indices) = (rTop (argProbs m c)).2
      ∧ r.2.mem ((c.tc : Thread nD τ).loc main_v89) = rMask (rTop (argProbs m c)).2 (argWeights m c)
      ∧ r.2.mem ((c.tc : Thread nD τ).loc main_v23) = argCount m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by unfold Value.res_main_v49; rfl), (h c).2.1.trans rfl,
      (h c).2.2.1.trans (by unfold Value.res_main_v89; rfl), (h c).2.2.2.1.trans rfl, (h c).2.2.2.2⟩)
    (Cert.ReferenceIdeal.Value.run (F := Ideal) m ρ)

end Cert.Router

end
-- ==== Proof.ReferenceValue.lean ====
/- The reference's results at an index. -/
module

public import proofs.«01_k».proof.Proof.ReferenceTerms
public import proofs.«01_k».proof.Proof.Tokens
public import Idealize.ShloMosaic.Lib.ScatterToDense.RefScatter

@[expose] public section

set_option maxRecDepth 16384

noncomputable section

namespace Cert.Router

open Idealize.ShloMosaic Cert.ReferenceIdeal Cert.ReferenceIdeal.Gen

/-- A gate score. -/
theorem rGate_apply (X : FVec Ideal S4x4096x2048 .f32) (W : FVec Ideal S2048x16 .f32) (n : Fin 16384) (l : Fin 16) :
    rGate X W (ix2 n l) = gate X W n l := by
  unfold gate token
  pointwise [rGate]

/-- A probability. -/
theorem rProbs_apply (s : FVec Ideal S16384x16 .f32) (n : Fin 16384) (l : Fin 16) :
    rProbs s (ix2 n l) = probs (fun l => s (ix2 n l)) l := by
  unfold probs
  pointwise [rProbs, rExps]
  simp only [ofBits_neg_inf]
  rfl

/-- A controller's score. -/
theorem rControl_apply (X : FVec Ideal S4x4096x2048 .f32) (w1 : FVec Ideal S2048x1024 .f32) (b1 : FVec Ideal S1024 .f32)
    (w2 : FVec Ideal S1024x1 .f32) (b2 : FVec Ideal S1 .f32) (n : Fin 16384) :
    rControl X w1 b1 w2 b2 (ix2 n 0) = controller X w1 b1 w2 b2 n := by
  unfold controller token
  pointwise [rControl]

/-- A token's number of experts. -/
theorem rCount_apply (z : FVec Ideal S16384x1 .f32) (n : Fin 16384) : rCount z (ix1 n) = count (z (ix2 n 0)) := by
  unfold count
  simp only [rCount, id_eq]
  pointwise
  rfl

/-- A comparison's word, read as a number. -/
theorem word_flag (b : Bool) : FloatOps.uitofp (F := Ideal) .f32 (BitVec.ofBool b) = if b then 1 else 0 := by
  cases b
  · show (((0 : Nat) : ℝ) : EReal) = 0
    norm_num
  · show (((1 : Nat) : ℝ) : EReal) = 1
    norm_num

/-- A probability taken. -/
theorem rTaken_apply (v : FVec Ideal S16384x3 .f32) (k : IVec S16384 32) (n : Fin 16384) (j : Fin 3) :
    rTaken v k (ix2 n j) = v (ix2 n j) * flag (k (ix1 n)) j.val := by
  unfold flag
  pointwise [rTaken]
  exact congrArg _ (word_flag _)

/-- A weight. -/
theorem rWeights_apply (t : FVec Ideal S16384x3 .f32) (n : Fin 16384) (j : Fin 3) :
    rWeights t (ix2 n j) = Ideal.div (t (ix2 n j)) ((∑ j' : Fin 3, t (ix2 n j')) + eps) := by
  unfold eps
  pointwise [rWeights]

/-- A row's index with its lane replaced. -/
theorem along_lane (n : Fin 16384) (l k : Fin 16) : (ix2 n l : S16384x16.Idx).along 1 k = ix2 n k := by
  funext a
  fin_cases a <;> rfl

/-- Where an expert stands: the lane the sort puts there. -/
theorem rTop_index (p : FVec Ideal S16384x16 .f32) (n : Fin 16384) (j : Fin 3) (hp : ∀ l, ⊥ < p (ix2 n l)) :
    (rTop p).2 (ix2 n j) = BitVec.ofNat 32 (sel (fun l => p (ix2 n l)) j).val := by
  rw [← sortedFrom_eq_sel _ hp j]
  simp only [rTop, Host.topK, Host.sort2]
  pointwise
  simp only [along_lane]
  rfl

/-- The probability of the lane the sort puts there. -/
theorem rTop_value (p : FVec Ideal S16384x16 .f32) (n : Fin 16384) (j : Fin 3) (hp : ∀ l, ⊥ < p (ix2 n l)) :
    (rTop p).1 (ix2 n j) = p (ix2 n (sel (fun l => p (ix2 n l)) j)) := by
  rw [← sortedFrom_eq_sel _ hp j]
  simp only [rTop, Host.topK, Host.sort2]
  pointwise
  simp only [along_lane]
  rfl

/-- The place's token, which is not negative and so is not wrapped. -/
theorem rPlaces_token (e : IVec S16384x3 32) (n : Fin 16384) (j : Fin 3) :
    rPlaces e (ix3 n j 0) = BitVec.ofNat 32 n.val := by
  pointwise [rPlaces]
  refine Routing.wrap_of_lt _ _ ?_
  rw [BitVec.toNat_ofNat]
  exact (Nat.mod_le _ _).trans_lt (by omega)

/-- The place's expert is the index, which is not negative and so is not wrapped. -/
theorem rPlaces_expert (e : IVec S16384x3 32) (n : Fin 16384) (j : Fin 3) (he : (e (ix2 n j)).toNat < 16) :
    rPlaces e (ix3 n j 1) = e (ix2 n j) := by
  pointwise [rPlaces]
  exact Routing.wrap_of_lt _ _ (he.trans (by norm_num))

/-- What a scatter leaves at a token's lane: the last of the three values whose word is the lane, and zero where none is. -/
theorem rScatter_apply (e : IVec S16384x3 32) (u : FVec Ideal S16384x3 .f32) (he : ∀ n j, (e (ix2 n j)).toNat < 16) (n : Fin 16384) (l : Fin 16) :
    rScatter e u (ix2 n l) = if l.val = (e (ix2 n 2)).toNat then u (ix2 n 2) else if l.val = (e (ix2 n 1)).toNat then u (ix2 n 1)
      else if l.val = (e (ix2 n 0)).toNat then u (ix2 n 0) else 0 := by
  refine (ScatterToDense.scatter_eq_GS (T := 16384) (C := 16) (K := 3) scatter_S16384x16_S16384x3x2_S16384x3_n_01_01_2 rfl rfl rfl (by norm_num) (by norm_num)
    _ (rPlaces e) u (fun i k => if h : k < 3 then e (ix2 i ⟨k, h⟩) else 0#32) (fun i k => if h : k < 3 then u (ix2 i ⟨k, h⟩) else 0)
    (fun i k => rPlaces_token e i k) (fun i k => ?_) (fun i k => ?_) n l).trans ?_
  · rw [dif_pos k.isLt]
    exact rPlaces_expert e i k (he i k)
  · rw [dif_pos k.isLt]
    rfl
  · simp only [ScatterToDense.GS, LaneScatter.lastHit]
    pointwise

/-- The mask at a token's lane, from the two scatters. -/
theorem rMask_apply (e : IVec S16384x3 32) (v : FVec Ideal S16384x3 .f32) (a : Fin 4) (b : Fin 4096) (l : Fin 16) :
    rMask e v (ix3 a b l) = rScatter e (fun _ => 1) (ix2 ⟨a.val * 4096 + b.val, by omega⟩ l)
      * rScatter e (fun i => if 0 < v i then 1 else 0) (ix2 ⟨a.val * 4096 + b.val, by omega⟩ l) := by
  have h1 : (broadcastInDim S16384x3 ![] bcast_S_S16384x3 (constant (F := Ideal) S_ .f32 0x3F800000#32) : FVec Ideal S16384x3 .f32) = fun _ => 1 := by
    funext i
    pointwise
  have h2 : (uitofp .f32 (cmpf .ogt v (broadcastInDim S16384x3 ![] bcast_S_S16384x3 (constant S_ .f32 0x00000000#32))) : FVec Ideal S16384x3 .f32)
      = fun i => if 0 < v i then 1 else 0 := by
    funext i
    pointwise
    exact (word_flag _).trans (by simp only [decide_eq_true_eq])
  unfold rMask
  rw [h1, h2]
  pointwise

end Cert.Router

end
-- ==== Proof.ReferenceResult.lean ====
/- The reference's four results, token by token, in the router's quantities. -/
module

public import proofs.«01_k».proof.Proof.ReferenceValue

@[expose] public section

set_option maxRecDepth 16384

noncomputable section

namespace Cert.Router

open Idealize.ShloMosaic Cert.ReferenceIdeal Cert.ReferenceIdeal.Gen

variable (X : FVec Ideal S4x4096x2048 .f32) (W : FVec Ideal S2048x16 .f32) (k : IVec S16384 32)

/-- A token's probabilities. -/
theorem rProbs_row (n : Fin 16384) : (fun l => rProbs (rGate X W) (ix2 n l)) = probs (gate X W n) := by
  funext l
  rw [rProbs_apply]
  exact congrArg (fun g => probs g l) (funext fun l' => rGate_apply X W n l')

variable (hg : ∀ n l, ∃ a : ℝ, gate X W n l = (a : EReal))
include hg

/-- A token's probabilities are above the least number. -/
theorem rProbs_pos (n : Fin 16384) (l : Fin 16) : ⊥ < rProbs (rGate X W) (ix2 n l) := by
  rw [show rProbs (rGate X W) (ix2 n l) = probs (gate X W n) l from congrFun (rProbs_row X W n) l]
  exact bot_lt_of_real _ (probs_real _ (hg n)) l

/-- The indices are the lanes the sweeps find. -/
theorem result_indices (n : Fin 16384) (j : Fin 3) :
    (rTop (rProbs (rGate X W))).2 (ix2 n j) = BitVec.ofNat 32 (sel (probs (gate X W n)) j).val := by
  rw [rTop_index _ n j (rProbs_pos X W hg n), rProbs_row]

/-- An index is below sixteen. -/
theorem result_indices_toNat (n : Fin 16384) (j : Fin 3) :
    ((rTop (rProbs (rGate X W))).2 (ix2 n j)).toNat = (sel (probs (gate X W n)) j).val := by
  rw [result_indices X W hg, BitVec.toNat_ofNat]
  exact Nat.mod_eq_of_lt (by omega)

/-- The probabilities taken are the sweeps' masses. -/
theorem result_taken (n : Fin 16384) (j : Fin 3) :
    rTaken (rTop (rProbs (rGate X W))).1 k (ix2 n j) = mass (probs (gate X W n)) (k (ix1 n)) j := by
  have e : (rTop (rProbs (rGate X W))).1 (ix2 n j) = probs (gate X W n) (sel (probs (gate X W n)) j) := by
    rw [rTop_value _ n j (rProbs_pos X W hg n), rProbs_row]
    exact congrFun (rProbs_row X W n) _
  rw [rTaken_apply, e]
  rfl

/-- The weights. -/
theorem result_weights (n : Fin 16384) (j : Fin 3) :
    rWeights (rTaken (rTop (rProbs (rGate X W))).1 k) (ix2 n j) = weight (probs (gate X W n)) (k (ix1 n)) j := by
  rw [rWeights_apply]
  simp only [result_taken X W k hg]
  rfl

/-- The mask. -/
theorem result_mask (a : Fin 4) (b : Fin 4096) (l : Fin 16) :
    rMask (rTop (rProbs (rGate X W))).2 (rWeights (rTaken (rTop (rProbs (rGate X W))).1 k)) (ix3 a b l)
      = mask (probs (gate X W ⟨a.val * 4096 + b.val, by omega⟩)) (k (ix1 ⟨a.val * 4096 + b.val, by omega⟩)) l := by
  rw [rMask_apply]
  generalize (⟨a.val * 4096 + b.val, _⟩ : Fin 16384) = n
  have he : ∀ n j, ((rTop (rProbs (rGate X W))).2 (ix2 n j)).toNat < 16 := fun n j => by
    rw [result_indices_toNat X W hg]
    exact Fin.isLt _
  rw [rScatter_apply _ _ he, rScatter_apply _ _ he]
  simp only [result_indices_toNat X W hg, result_weights X W k hg, weight_pos_iff _ (probs_real _ (hg n))]
  have hs := mask_sel _ (bot_lt_of_real _ (probs_real _ (hg n))) (k (ix1 n))
  by_cases h2 : l.val = (sel (probs (gate X W n)) 2).val
  · rw [if_pos h2, if_pos h2, one_mul, Fin.ext h2, hs]
    rfl
  by_cases h1 : l.val = (sel (probs (gate X W n)) 1).val
  · rw [if_neg h2, if_neg h2, if_pos h1, if_pos h1, one_mul, Fin.ext h1, hs]
    rfl
  by_cases h0 : l.val = (sel (probs (gate X W n)) 0).val
  · rw [if_neg h2, if_neg h2, if_neg h1, if_neg h1, if_pos h0, if_pos h0, one_mul, Fin.ext h0, hs]
    rfl
  rw [if_neg h2, if_neg h2, if_neg h1, if_neg h1, if_neg h0, if_neg h0, mul_zero, mask_of_ne]
  intro j e
  fin_cases j
  · exact h0 (congrArg Fin.val e.symm)
  · exact h1 (congrArg Fin.val e.symm)
  · exact h2 (congrArg Fin.val e.symm)

end Cert.Router

end
-- ==== Proof.Finite.lean ====
/- The precondition read: every token entry and every entry of the gate's matrix is a real number. -/
module

public import proofs.«01_k».proof.Pre_finite_tokens_and_gate
public import Idealize.ShloMosaic.Lib.Pointwise

@[expose] public section

noncomputable section

namespace Cert.Router

open Idealize.ShloMosaic Cert.Pre_finite_tokens_and_gate

variable [Facts]

/-- An extended real whose size is below infinity is a real number. -/
theorem real_of_abs_lt (x : EReal) (h : max x (-x) < ⊤) : ∃ a : ℝ, x = (a : EReal) := by
  induction x with
  | bot => simp at h
  | top => simp at h
  | coe a => exact ⟨a, rfl⟩

/-- Infinity's word is infinity. -/
theorem ofBits_inf : Ideal.ofBits .f32 2139095040#32 = (⊤ : EReal) := by
  simp [Ideal.ofBits, Ideal.ieee]

/-- An entry that compares below infinity in size is a real number. -/
theorem real_of_compare (x : EReal)
    (e : BitVec.ofBool (decide (FloatOps.absf (F := Ideal) (φ := .f32) x < Ideal.ofBits .f32 2139095040#32)) = 1#1) :
    ∃ a : ℝ, x = (a : EReal) := by
  rw [ofBits_inf] at e
  by_cases h : max x (-x) < ⊤
  · exact real_of_abs_lt x h
  · exact absurd (e.symm.trans (congrArg BitVec.ofBool (decide_eq_false h))) (by decide)

variable (X : FVec Ideal S4x4096x2048 .f32) (W : FVec Ideal S2048x16 .f32) (w1 : FVec Ideal S2048x1024 .f32)
  (b1 : FVec Ideal S1024 .f32) (w2 : FVec Ideal S1024x1 .f32) (b2 : FVec Ideal S1 .f32)

/-- Every token entry is a real number. -/
theorem tokens_real (h : (fn (F := Ideal) X W w1 b1 w2 b2).1 = fun _ => 1#1) (i : S4x4096x2048.Idx) : ∃ a : ℝ, X i = (a : EReal) := by
  have e := congrFun h i
  revert e
  pointwise [fn]
  exact real_of_compare (X i)

/-- Every entry of the gate's matrix is a real number. -/
theorem gate_matrix_real (h : (fn (F := Ideal) X W w1 b1 w2 b2).2 = fun _ => 1#1) (i : S2048x16.Idx) : ∃ a : ℝ, W i = (a : EReal) := by
  have e := congrFun h i
  revert e
  pointwise [fn]
  exact real_of_compare (W i)

end Cert.Router

end
-- ==== Proof.Equation.lean ====
/- The equation: where the tokens and the gate's matrix are finite, the kernel's four results are the reference's. -/
module

public import proofs.«01_k».proof.Defs
public import proofs.«01_k».proof.Proof.KernelRun
public import proofs.«01_k».proof.Proof.ReferenceResult
public import proofs.«01_k».proof.Proof.Finite

@[expose] public section

set_option maxRecDepth 16384

noncomputable section

namespace Cert.Router

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The two programs are run on the same arguments. -/
def Agree : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)

/-- Every gate score of the kernel's arguments is a real number. -/
def RealScores : Prop :=
  ∀ n l, ∃ a : ℝ, gate (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) n l = (a : EReal)

variable {m m' c}

/-- The precondition makes every gate score real. -/
theorem realScores_of_pre [Cert.Pre_finite_tokens_and_gate.Facts] (h : Cert.Pre_KernelIdeal_finite_tokens_and_gate m) : RealScores m c :=
  gate_real _ _ (tokens_real _ _ _ _ _ _ (h c).1) (gate_matrix_real _ _ _ _ _ _ (h c).2)

/-- The reference's number of experts is the kernel's. -/
theorem count_agree (h : Agree m m' c) (n : Fin 16384) : argCount m' c (ix1 n) = K m c n := by
  obtain ⟨h0, h1, h2, h3, h4, h5⟩ := h
  refine (rCount_apply _ n).trans ?_
  rw [rControl_apply, h0, h2, h3, h4, h5]
  rfl

/-- The reference's counts are the kernel's. -/
theorem counts_eq (h : Agree m m' c) : argCount m' c = last m c Cert.KernelIdeal.main_v13 := by
  funext i
  obtain ⟨n, rfl⟩ : ∃ n : Fin 16384, i = ix1 n := ⟨i 0, eq_ix1 i⟩
  exact (count_agree h n).trans ((last_count m c n).trans (final_count m c n 0)).symm

/-- The reference's indices are the kernel's. -/
theorem indices_eq (h : Agree m m' c) (hg : RealScores m c) : (rTop (argProbs m' c)).2 = last m c Cert.KernelIdeal.main_v10 := by
  funext i
  obtain ⟨n, j, rfl⟩ : ∃ (n : Fin 16384) (j : Fin 3), i = ix2 n j := ⟨i 0, i 1, eq_ix2 i⟩
  refine Eq.trans ?_ ((last_indices m c n j).trans (final_indices m c n j)).symm
  rw [argProbs, h.1, h.2.1]
  exact result_indices _ _ hg n j

/-- The reference's weights are the kernel's. -/
theorem weights_eq (h : Agree m m' c) (hg : RealScores m c) : argWeights m' c = last m c Cert.KernelIdeal.main_v9 := by
  funext i
  obtain ⟨n, j, rfl⟩ : ∃ (n : Fin 16384) (j : Fin 3), i = ix2 n j := ⟨i 0, i 1, eq_ix2 i⟩
  refine Eq.trans ?_ ((last_weights m c n j).trans (final_weights m c n j hg)).symm
  rw [← count_agree h, argWeights, argProbs, h.1, h.2.1]
  exact result_weights _ _ _ hg n j

/-- The reference's mask is the kernel's. -/
theorem mask_eq (h : Agree m m' c) (hg : RealScores m c) :
    rMask (rTop (argProbs m' c)).2 (argWeights m' c) = last m c Cert.KernelIdeal.main_v11 := by
  funext i
  obtain ⟨a, b, l, rfl⟩ : ∃ (a : Fin 4) (b : Fin 4096) (l : Fin 16), i = ix3 a b l := ⟨i 0, i 1, i 2, eq_ix3 i⟩
  refine Eq.trans ?_ ((last_mask m c a b l).trans (final_mask m c _ l hg)).symm
  rw [← count_agree h, argWeights, argProbs, h.1, h.2.1]
  exact result_mask _ _ _ hg a b l

end Cert.Router

end
-- ==== Proof.lean ====
/- The certificate: the kernel's and the reference's programs run and keep their arguments, the kernel's exact reading is
   its own text, and on finite tokens and a finite gate matrix its four results are the reference's. -/
module

public import proofs.«01_k».proof.Defs
public import proofs.«01_k».proof.Proof.Gen.Kernel.Frame
public import proofs.«01_k».proof.Proof.Equation

@[expose] public section

noncomputable section

namespace Cert.Proof

open Idealize.ShloMosaic Idealize.ShloMosaic.TcCoe Idealize.SL.Sem Cert.Router

/-- The shapes the precondition's broadcasts name fit. -/
theorem preFacts : Cert.Pre_finite_tokens_and_gate.Facts := ⟨by decide, by decide⟩

/-- The reference runs, keeps its arguments and leaves no counter raised. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2.2.2, sem_eq_zero_of_no_sems (by decide) r.2⟩)
    (Cert.ReferenceIdeal.Value.run (F := Ideal) m ρ)

/-- On finite tokens and a finite gate matrix the kernel's four results are the reference's. -/
theorem results_equal : Cert.algebraic_KernelIdeal_ReferenceIdeal_pre_finite_tokens_and_gate
    (hKernelIdeal := Cert.KernelIdeal.Gen.facts) (hReferenceIdeal := Cert.ReferenceIdeal.Gen.facts)
    (hPre_finite_tokens_and_gate := preFacts) := by
  intro m g m' g' hpre hagree
  have hg : ∀ c, RealScores m c := fun c => @realScores_of_pre m c preFacts hpre
  have ha : ∀ c, Agree m m' c := hagree
  refine ⟨fun c => last m c Cert.KernelIdeal.main_v9, fun c => last m c Cert.KernelIdeal.main_v10,
    fun c => last m c Cert.KernelIdeal.main_v11, fun c => last m c Cert.KernelIdeal.main_v13, kernel_run m g, ?_⟩
  exact (θ_run Cert.ReferenceIdeal.defs _ _).mono
    (fun _ h c => ⟨(h c).1.trans (weights_eq (ha c) (hg c)), (h c).2.1.trans (indices_eq (ha c) (hg c)),
      (h c).2.2.1.trans (mask_eq (ha c) (hg c)), (h c).2.2.2.1.trans (counts_eq (ha c)), (h c).2.2.2.2⟩)
    (reference_run m' g')

/-- Every claim. -/
theorem claim : Cert.Claim :=
  ⟨Cert.Kernel.Gen.facts, Cert.KernelIdeal.Gen.facts, Cert.ReferenceIdeal.Gen.facts, preFacts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    results_equal⟩

end Cert.Proof

end
